-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S8192x64 : Shape := ⟨2, ![8192, 64]⟩
abbrev S8192 : Shape := ⟨1, ![8192]⟩
abbrev S64 : Shape := ⟨1, ![64]⟩
abbrev S_ : Shape := ⟨0, ![]⟩

class Facts : Prop where
  bcast_S_S8192x64 : S_.BroadcastsInDim S8192x64 (![] : Fin 0 → Fin S8192x64.rank)

variable [Facts]

def fn {F : FTy → Type} [FloatOps F] (main_arg0 : FVec F S8192x64 .f32) (main_arg1 : IVec S8192 32) (main_arg2 : FVec F S64 .f32) : IVec S8192x64 1 :=
  let main_cst : FVec F S_ .f32 := constant S_ .f32 0x7F800000#32
  let main_v0 : FVec F S8192x64 .f32 := broadcastInDim S8192x64 ![] bcast_S_S8192x64 main_cst
  let main_v1 : IVec S8192x64 1 := cmpf .olt main_arg0 main_v0
  let main_cst_0 : FVec F S_ .f32 := constant S_ .f32 0xFF800000#32
  let main_v2 : FVec F S8192x64 .f32 := broadcastInDim S8192x64 ![] bcast_S_S8192x64 main_cst_0
  let main_v3 : IVec S8192x64 1 := cmpf .ogt main_arg0 main_v2
  let main_v4 : IVec S8192x64 1 := andi main_v1 main_v3
  main_v4
-- ==== Kernel.lean ====
abbrev S8192x64 : Shape := ⟨2, ![8192, 64]⟩
abbrev S8192 : Shape := ⟨1, ![8192]⟩
abbrev S64 : Shape := ⟨1, ![64]⟩
abbrev S64x8192 : Shape := ⟨2, ![64, 8192]⟩
abbrev S8192x1 : Shape := ⟨2, ![8192, 1]⟩
abbrev S1x8192 : Shape := ⟨2, ![1, 8192]⟩
abbrev S1x1 : Shape := ⟨2, ![1, 1]⟩
abbrev S512x64 : Shape := ⟨2, ![512, 64]⟩
abbrev S512x1 : Shape := ⟨2, ![512, 1]⟩
abbrev S512 : Shape := ⟨1, ![512]⟩
abbrev S512x2 : Shape := ⟨2, ![512, 2]⟩
abbrev S512x66 : Shape := ⟨2, ![512, 66]⟩
abbrev S66x8192 : Shape := ⟨2, ![66, 8192]⟩
abbrev S512x8192 : Shape := ⟨2, ![512, 8192]⟩
abbrev S1x512 : Shape := ⟨2, ![1, 512]⟩
abbrev S1x1x8192 : Shape := ⟨3, ![1, 1, 8192]⟩
abbrev S1 : Shape := ⟨1, ![1]⟩
abbrev S1x1x1 : Shape := ⟨3, ![1, 1, 1]⟩
abbrev S64x1 : Shape := ⟨2, ![64, 1]⟩
abbrev S1x64x1 : Shape := ⟨3, ![1, 64, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S64, .f32⟩
  | .hbm, ⟨3, _⟩ => ⟨S64x8192, .f32⟩
  | .hbm, ⟨4, _⟩ => ⟨S8192x1, .i32⟩
  | .hbm, ⟨5, _⟩ => ⟨S1x8192, .i32⟩
  | .hbm, ⟨6, _⟩ => ⟨S1x1, .f32⟩
  | .local _ .vmem, ⟨0, _⟩ => ⟨S512x64, .f32⟩
  | .local _ .vmem, ⟨1, _⟩ => ⟨S512x64, .f32⟩
  | .local _ .vmem, ⟨2, _⟩ => ⟨S64x8192, .f32⟩
  | .local _ .vmem, ⟨3, _⟩ => ⟨S512x1, .i32⟩
  | .local _ .vmem, ⟨4, _⟩ => ⟨S512x1, .i32⟩
  | .local _ .vmem, ⟨5, _⟩ => ⟨S1x8192, .i32⟩
  | .local _ .vmem, ⟨6, _⟩ => ⟨S1x1, .f32⟩
  | .local _ .vmem, ⟨7, _⟩ => ⟨S1x8192, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_20 : Index := 0#32
  let arg0 : BitVec 32 := BitVec.ofNat 32 (i 0).val
  let c512_i32 : BitVec 32 := 512#32
  let v51 : BitVec 32 := Scalar.muli arg0 c512_i32
  let v52 : Index := Scalar.indexCast v51
  ![0, v52.toNat]
def k0_cond1 (i : grid0.Coords) : BitVec 1 :=
  let arg0 : BitVec 32 := BitVec.ofNat 32 (i 0).val
  let c15_i32 : BitVec 32 := 15#32
  let v56 : BitVec 1 := Scalar.cmpi .eq arg0 c15_i32
  let v57 : BitVec 32 := Scalar.extui v56
  let c0_i32 : BitVec 32 := 0#32
  let v58 : BitVec 1 := Scalar.cmpi .ne v57 c0_i32
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x64 : Shape := ⟨2, ![8192, 64]⟩
abbrev S8192 : Shape := ⟨1, ![8192]⟩
abbrev S64 : Shape := ⟨1, ![64]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S8192x64, .f32⟩
  | 1 => ⟨S8192, .i32⟩
  | 2 => ⟨S64, .f32⟩
  | 3 => ⟨S8192x64, .f32⟩
  | 4 => ⟨S_, .f32⟩
  | 5 => ⟨S8192, .f32⟩
  | 6 => ⟨S8192x1, .f32⟩
  | 7 => ⟨S1x8192, .f32⟩
  | 8 => ⟨S8192x8192, .f32⟩
  | 9 => ⟨S8192x8192, .f32⟩
  | 10 => ⟨S8192x8192, .f32⟩
  | 11 => ⟨S64x8192, .f32⟩
  | 12 => ⟨S8192x8192, .f32⟩
  | 13 => ⟨S_, .f32⟩
  | 14 => ⟨S8192x8192, .f32⟩
  | 15 => ⟨S8192x8192, .f32⟩
  | 16 => ⟨S8192x8192, .f32⟩
  | 17 => ⟨S_, .f32⟩
  | 18 => ⟨S_, .f32⟩
  | 19 => ⟨S8192x8192, .f32⟩
  | 20 => ⟨S8192x8192, .f32⟩
  | 21 => ⟨S8192x8192, .f32⟩
  | 22 => ⟨S8192x1, .i32⟩
  | 23 => ⟨S1x8192, .i32⟩
  | 24 => ⟨S8192x8192, .i32⟩
  | 25 => ⟨S8192x8192, .i32⟩
  | 26 => ⟨S8192x8192, .i1⟩
  | 27 => ⟨S_, .f32⟩
  | 28 => ⟨S_, .f32⟩
  | 29 => ⟨S8192x8192, .f32⟩
  | 30 => ⟨S8192x8192, .f32⟩
  | 31 => ⟨S_, .f32⟩
  | 32 => ⟨S8192, .f32⟩
  | 33 => ⟨S_, .f32⟩
  | 34 => ⟨S_, .f32⟩
  | 35 => ⟨S8192x8192, .f32⟩
  | 36 => ⟨S8192x8192, .f32⟩
  | 37 => ⟨S_, .f32⟩
  | 38 => ⟨S8192, .f32⟩
  | 39 => ⟨S8192, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .i32⟩
  | 57 => ⟨S_, .i32⟩
  | 58 => ⟨S8192, .i32⟩
  | 59 => ⟨S8192, .i32⟩
  | 60 => ⟨S_, .i32⟩
  | 61 => ⟨S_, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S_, .f32⟩
  | 77 => ⟨S8192, .f32⟩
  | 78 => ⟨S8192, .f32⟩
  | 79 => ⟨S_, .f32⟩
  | 80 => ⟨S64, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S64, .f32⟩
  | 90 => ⟨S_, .f32⟩
  | 91 => ⟨S8192, .f32⟩
  | 92 => ⟨S8192, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S64, .f32⟩
  | 115 => ⟨S_, .f32⟩
  | 116 => ⟨S_, .f32⟩
  | 117 => ⟨S64, .f32⟩
  | 118 => ⟨S64, .f32⟩
  | 119 => ⟨S_, .f32⟩
  | 120 => ⟨S_, .f32⟩
  | 121 => ⟨S64, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .i32⟩
  | _ => ⟨S8192x64, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192, .f32⟩
  | 9 => ⟨S8192, .f32⟩
  | 10 => ⟨S_, .f32⟩
  | 11 => ⟨S_, .f32⟩
  | 12 => ⟨S_, .f32⟩
  | 13 => ⟨S_, .f32⟩
  | 14 => ⟨S_, .f32⟩
  | 15 => ⟨S8192, .f32⟩
  | 16 => ⟨S_, .f32⟩
  | 17 => ⟨S_, .f32⟩
  | 18 => ⟨S_, .f32⟩
  | 19 => ⟨S_, .f32⟩
  | 20 => ⟨S_, .f32⟩
  | 21 => ⟨S1x1, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_call2_v0 : Ref sig .tc := ⟨.hbm, 34, rfl⟩
abbrev main_call2_v1 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_c_12 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_c_15 : Ref sig .tc := ⟨.hbm, 81, rfl⟩
abbrev main_v50 : Ref sig .tc := ⟨.hbm, 82, rfl⟩
abbrev main_v51 : Ref sig .tc := ⟨.hbm, 83, rfl⟩
abbrev main_c_16 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_v57 : Ref sig .tc := ⟨.hbm, 91, rfl⟩
abbrev main_v58 : Ref sig .tc := ⟨.hbm, 92, rfl⟩
abbrev main_c_18 : Ref sig .tc := ⟨.hbm, 93, rfl⟩
abbrev main_v59 : Ref sig .tc := ⟨.hbm, 94, rfl⟩
abbrev main_v60 : Ref sig .tc := ⟨.hbm, 95, rfl⟩
abbrev main_c_19 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_20 : Ref sig .tc := ⟨.hbm, 102, rfl⟩
abbrev main_v66 : Ref sig .tc := ⟨.hbm, 103, rfl⟩
abbrev main_cst_21 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_22 : Ref sig .tc := ⟨.hbm, 108, rfl⟩
abbrev main_v70 : Ref sig .tc := ⟨.hbm, 109, rfl⟩
abbrev main_v71 : Ref sig .tc := ⟨.hbm, 110, rfl⟩
abbrev main_cst_23 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_24 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call4_call0_cst : Ref sig .tc := ⟨.hbm, 119, rfl⟩
abbrev main_call4_call0_v0 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_25 : Ref sig .tc := ⟨.hbm, 128, rfl⟩
abbrev main_v85 : Ref sig .tc := ⟨.hbm, 129, rfl⟩
abbrev main_v86 : Ref sig .tc := ⟨.hbm, 130, rfl⟩
abbrev main_c_26 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_27 : Ref sig .tc := ⟨.hbm, 138, rfl⟩
abbrev main_v93 : Ref sig .tc := ⟨.hbm, 139, rfl⟩
abbrev main_cst_28 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_29 : Ref sig .tc := ⟨.hbm, 144, rfl⟩
abbrev main_v97 : Ref sig .tc := ⟨.hbm, 145, rfl⟩
abbrev main_cst_30 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]
-- ==== Proof.Spec.lean ====
/-
The quantities of the histogram loss, as plain functions of extended reals.

`X i d` is row `i` of the samples, `T i` its label.  For a row `i` the loss compares the farthest
sample of the same label with the nearest one of another label; the difference of these two distances
is spread over 64 bins between the least and the greatest difference, and every row is weighted by the
cumulative share of its lower bin.
-/
module

public import Idealize.ShloMosaic.PureOps.Ideal.Laws
public import Mathlib.Data.EReal.Inv

@[expose] public section

noncomputable section

namespace Cert.Hist

open Idealize.ShloMosaic

/-- The floor put under a squared distance. -/
def eps : EReal := Ideal.ofBits .f32 0x2B8CBCCC#32

/-- The number added to the histogram's total before dividing by it. -/
def tiny : EReal := Ideal.ofBits .f32 0x358637BD#32

/-- The squared length of row `i`. -/
def sq (X : Fin 8192 → Fin 64 → EReal) (i : Fin 8192) : EReal := ∑ k, X i k * X i k

/-- Half the squared length of row `j` less the product of rows `i` and `j`, the half square being
taken in two parts: itself, and what is left of it after itself. -/
def half (X : Fin 8192 → Fin 64 → EReal) (i j : Fin 8192) : EReal :=
  (∑ k, (0 - X i k) * X j k)
    + (((1 / 2 : ℝ) : EReal) * sq X j + (((1 / 2 : ℝ) : EReal) * sq X j - ((1 / 2 : ℝ) : EReal) * sq X j))

/-- The distance of row `i` from a row whose `half` is `e`. -/
def root (X : Fin 8192 → Fin 64 → EReal) (i : Fin 8192) (e : EReal) : EReal :=
  Ideal.sqrt (max eps (sq X i + 2 * e))

/-- The kernel's difference of the two distances of row `i`: the greatest and the least `half` are
found first, and turned into distances afterwards. -/
def hvK (X : Fin 8192 → Fin 64 → EReal) (T : Fin 8192 → BitVec 32) (i : Fin 8192) : EReal :=
  root X i (⨆ j, if T i = T j then half X i j else ⊥) - root X i (⨅ j, if T i = T j then ⊤ else half X i j)

/-- The distance of rows `i` and `j` as the reference writes it. -/
def dist (X : Fin 8192 → Fin 64 → EReal) (i j : Fin 8192) : EReal :=
  Ideal.sqrt (max eps (sq X i + sq X j - 2 * ∑ k, X i k * X j k))

/-- The greatest distance of row `i` from a row of the same label. -/
def posR (X : Fin 8192 → Fin 64 → EReal) (T : Fin 8192 → BitVec 32) (i : Fin 8192) : EReal :=
  ⨆ j, if T i = T j then dist X i j else ⊥

/-- The least distance of row `i` from a row of another label. -/
def negR (X : Fin 8192 → Fin 64 → EReal) (T : Fin 8192 → BitVec 32) (i : Fin 8192) : EReal :=
  ⨅ j, if T i = T j then ⊤ else dist X i j

/-- The lower end of the bins. -/
def lowest (h : Fin 8192 → EReal) : EReal := min (-2) (⨅ j, h j)

/-- The width of a bin. -/
def width (h : Fin 8192 → EReal) : EReal := Ideal.div (max 2 (⨆ j, h j) - lowest h) 63

/-- The lower bin of row `i`. -/
def bin (h : Fin 8192 → EReal) (i : Fin 8192) : BitVec 32 :=
  Ideal.fptosi 32 (Ideal.liftRound Int.floor (Ideal.div (h i - lowest h) (width h)))

/-- The part of row `i` which goes to its lower bin. -/
def share (h : Fin 8192 → EReal) (i : Fin 8192) : EReal :=
  1 - Ideal.div (h i - lowest h - (((bin h i).toInt : ℝ) : EReal) * width h) (width h)

/-- The kernel's histogram: for bin `b`, the sum over all rows of what the row gives to the bin. -/
def histK (h : Fin 8192 → EReal) (b : Fin 64) : EReal :=
  ∑ i, ((if BitVec.ofNat 32 b = bin h i then share h i else 0)
    + if BitVec.ofNat 32 b = IntOp.minsi (bin h i + 1#32) 63#32 then 1 - share h i else 0)

/-- The histogram `g` divided by its total (and a tiny number). -/
def norm (g : Fin 64 → EReal) (b : Fin 64) : EReal := Ideal.div (g b) ((∑ a, g a) + tiny)

/-- The histogram `g` divided by its total. -/
def dens (g : Fin 64 → EReal) (b : Fin 64) : EReal := Ideal.div (g b) (∑ a, g a)

/-- The kernel's weight of row `i`: the sum of the densities of the bins up to its own. -/
def weightK (h : Fin 8192 → EReal) (i : Fin 8192) : EReal :=
  ∑ b : Fin 64, if (BitVec.ofNat 32 b).sle (bin h i) then dens (norm (histK h)) b else 0

/-- The kernel's loss from the differences of the distances. -/
def lossK (h : Fin 8192 → EReal) : EReal := Ideal.div (∑ i, h i * weightK h i) 8192

/-- The reference's difference of the two distances of row `i`. -/
def hvR (X : Fin 8192 → Fin 64 → EReal) (T : Fin 8192 → BitVec 32) (i : Fin 8192) : EReal := posR X T i - negR X T i

/-- The upper bin of row `i` as the reference takes it: the next bin, kept between 0 and 63. -/
def upper (h : Fin 8192 → EReal) (i : Fin 8192) : BitVec 32 :=
  IntOp.minsi 63#32 (IntOp.maxsi 0#32 (bin h i + 1#32))

/-- An index of a table of 64 entries, counted from the end where it is negative. -/
def wrap (b : BitVec 32) : BitVec 32 := if b.slt 0#32 then b + 64#32 else b

/-- The reference's histogram: every row adds its shares to the bins its two indices name. -/
def histR (h : Fin 8192 → EReal) (b : Fin 64) : EReal :=
  (0 + ∑ i, if (wrap (bin h i)).toInt = b then share h i else 0)
    + ∑ i, if (wrap (upper h i)).toInt = b then 1 - share h i else 0

/-- The reference's running histogram: the old one with factor 0, the new one with factor 1. -/
def blend (H : Fin 64 → EReal) (h : Fin 8192 → EReal) (b : Fin 64) : EReal := 0 * H b + 1 * norm (histR h) b

/-- The sum of the entries up to `b`. -/
def cumul (g : Fin 64 → EReal) (b : Fin 64) : EReal := ∑ a : Fin 64, if a ≤ b then g a else 0

/-- The entry of a table of 64 that an index reads: the index kept between 0 and 63. -/
def spot (b : BitVec 32) : Fin 64 := ⟨min b.toInt.toNat 63, by omega⟩

/-- The reference's weight of row `i`. -/
def weightR (H : Fin 64 → EReal) (h : Fin 8192 → EReal) (i : Fin 8192) : EReal :=
  cumul (dens (blend H h)) (spot (wrap (bin h i)))

/-- The reference's loss. -/
def lossR (X : Fin 8192 → Fin 64 → EReal) (T : Fin 8192 → BitVec 32) (H : Fin 64 → EReal) : EReal :=
  -(Ideal.div (∑ i, negR X T i * weightR H (hvR X T) i) 8192)
    + Ideal.div (∑ i, posR X T i * weightR H (hvR X T) i) 8192

end Cert.Hist
end
-- ==== Proof.Consts.lean ====
/-
The numbers the programs write as float words.
-/
module

public import proofs.«01_k».proof.Proof.Spec

@[expose] public section

namespace Cert.Hist

open Idealize.ShloMosaic

theorem lit_two : Ideal.ofBits .f32 0x40000000#32 = 2 := by
  simp [Ideal.ofBits, Ideal.ieee, -EReal.coe_mul]; norm_num; rfl

theorem lit_neg_two : Ideal.ofBits .f32 0xC0000000#32 = -2 := by
  simp [Ideal.ofBits, Ideal.ieee, -EReal.coe_mul]; norm_num; rfl

theorem lit_half : Ideal.ofBits .f32 0x3F000000#32 = ((1 / 2 : ℝ) : EReal) := by
  simp [Ideal.ofBits, Ideal.ieee, -EReal.coe_mul]; norm_num

theorem lit_63 : Ideal.ofBits .f32 0x427C0000#32 = 63 := by
  simp [Ideal.ofBits, Ideal.ieee, -EReal.coe_mul]; norm_num; rfl

theorem lit_8192 : Ideal.ofBits .f32 0x46000000#32 = 8192 := by
  simp [Ideal.ofBits, Ideal.ieee, -EReal.coe_mul]; norm_num; rfl

theorem lit_top : Ideal.ofBits .f32 0x7F800000#32 = ⊤ := by
  simp [Ideal.ofBits, Ideal.ieee]

theorem lit_bot : Ideal.ofBits .f32 0xFF800000#32 = ⊥ := by
  simp [Ideal.ofBits, Ideal.ieee]

theorem lit_top16 : Ideal.ofBits .bf16 0x7F80#16 = ⊤ := by
  simp [Ideal.ofBits, Ideal.ieee]

theorem lit_bot16 : Ideal.ofBits .bf16 0xFF80#16 = ⊥ := by
  simp [Ideal.ofBits, Ideal.ieee]

/-- The floor under a squared distance is a positive real number. -/
theorem eps_real : ∃ r : ℝ, 0 < r ∧ eps = (r : EReal) := by
  refine ⟨_, ?_, by unfold eps; simp [Ideal.ofBits, Ideal.ieee, -EReal.coe_mul]; rfl⟩
  positivity

/-- The tiny number is a positive real number. -/
theorem tiny_real : ∃ r : ℝ, 0 < r ∧ tiny = (r : EReal) := by
  refine ⟨_, ?_, by unfold tiny; simp [Ideal.ofBits, Ideal.ieee, -EReal.coe_mul]; rfl⟩
  positivity

end Cert.Hist
-- ==== Proof.Pre.lean ====
module

public import proofs.«01_k».proof.Pre_finite_x
public import proofs.«01_k».proof.Proof.Consts
public import Idealize.ShloMosaic.Lib.Pointwise

/-!
# The precondition

Every sample is a real number.
-/

@[expose] public section

set_option maxRecDepth 16384

noncomputable section

namespace Cert.Pre_finite_x

open Idealize.ShloMosaic Cert.Hist

/-- The one relation of shapes the precondition states. -/
theorem facts : Facts := ⟨by decide⟩

/-- Between the two infinities there are only real numbers. -/
theorem real_of_bits (a : EReal) (h : IntOp.andi (Ideal.cmp .olt a ⊤) (Ideal.cmp .ogt a ⊥) = 1#1) : ∃ r : ℝ, a = (r : EReal) := by
  induction a with
  | bot => exact absurd h (by simp [Ideal.cmp, IntOp.andi])
  | top => exact absurd h (by simp [Ideal.cmp, IntOp.andi])
  | coe r => exact ⟨r, rfl⟩

theorem fn_at [Facts] (x : FVec Ideal S8192x64 .f32) (t : IVec S8192 32) (g : FVec Ideal S64 .f32) (i : Fin 8192) (k : Fin 64) :
    fn x t g (ix2 i k) = IntOp.andi (Ideal.cmp .olt (x (ix2 i k)) ⊤) (Ideal.cmp .ogt (x (ix2 i k)) ⊥) := by
  rw [← lit_top, ← lit_bot]
  pointwise [fn]

/-- The precondition makes every sample a real number. -/
theorem real_samples [Facts] (x : FVec Ideal S8192x64 .f32) (t : IVec S8192 32) (g : FVec Ideal S64 .f32)
    (h : fn x t g = fun _ => 1#1) : ∃ r : Fin 8192 → Fin 64 → ℝ, ∀ i k, x (ix2 i k) = (r i k : EReal) := by
  have e : ∀ i k, ∃ r : ℝ, x (ix2 i k) = (r : EReal) := fun i k =>
    real_of_bits _ ((fn_at x t g i k).symm.trans (congrFun h _))
  choose r hr using e
  exact ⟨r, hr⟩

end Cert.Pre_finite_x
end
-- ==== Proof.RunBase.lean ====
module

public import proofs.«01_k».proof.Proof.Gen.KernelIdeal.Skeleton
public import proofs.«01_k».proof.Proof.Gen.KernelIdeal.Frame
public import Idealize.ShloMosaic.Lib.Pipeline.Value
public import Idealize.ShloMosaic.Lib.ValueIdx
public import Idealize.ShloMosaic.Lib.WholeRead
public import Idealize.ShloMosaic.Lib.WritesUnit

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 512 differences "hardest positive minus hardest negative" one block computes, from the four blocks it reads. -/
def hvOf (x0 : Vec F S512x64 .f32) (x1 : Vec F S64x8192 .f32) (x2 : Vec F S512x1 .i32) (x3 : Vec F S1x8192 .i32) :
    Vec F S1x512 .f32 :=
  k0_pay1 (k0_pay11 x0) (k0_pay14 x0 x1 x2 x3) (k0_pay15 x0 x1 x2 x3)

/-- The loss the last block computes from all 8192 differences. -/
def lossOf (v : Vec F S1x8192 .f32) : Vec F S1x1 .f32 :=
  k0_pay2 v (k0_pay5 v) (iota .tc S64x8192 32 [0] iota_S64x8192_d0_w32) (k0_pay7 v) (k0_pay8 v) (k0_pay9 v) (k0_pay10 (F := F))

/-- The condition under which the body computes the loss, from the grid coordinates. -/
abbrev lastCond (i : grid0.Coords) : Prop := k0_cond1 i = 1#1

/-- It holds at the last of the sixteen points only. -/
theorem lastCond_iff : ∀ t : Fin cfg0.N, lastCond (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    have e1 : (grid0.coords t 0).val = t.val := by omega
    simp only [lastCond, k0_cond1, e1]
    word_cmp
   : ∀ t : Fin grid0.N, lastCond (grid0.coords t) ↔ t.val = 15)

/-- The first row the body stores at a point is 512 times the point's number. -/
theorem off_eq (t : Fin cfg0.N) : k0_off1 (grid0.coords t) = ![0, 512 * t.val] := by
  have ht : t.val < 16 := Nat.lt_of_lt_of_eq t.isLt N_0
  have e0 : (grid0.coords t 0).val = t.val / 1 % 16 := Pipeline.Grid.coords_val (G := grid0) t 0 (by decide) rfl
  have e1 : (grid0.coords t 0).val = t.val := by omega
  have e2 : (Scalar.indexCast (Scalar.muli (BitVec.ofNat 32 t.val) 512#32) : BitVec _).toNat = 512 * t.val := by
    simp [Scalar.muli, Scalar.indexCast, IntOp.muli, BitVec.toNat_mul, BitVec.toNat_ofNat]
    omega
  unfold k0_off1
  simp only [e1]
  exact congrArg (fun n => ![0, n]) e2

/-- Loading the whole of a rank-2 memref is reading it. -/
theorem load_read {sp : Space} {d : Fin 2 → ℕ} {e : EltTy} {m : Memref sig .tc sp ⟨2, d⟩ e}
    (f : m.view.ty.Contents (Elt F)) (inb : ∀ a : Fin 2, (![0, 0] : Fin 2 → ℕ) a + d a ≤ d a) :
    m.view.readAt (Elt F) (Rect.unit (s := ⟨2, d⟩) ![0, 0] d inb).toLoadRect f = m.view.read (Elt F) f := by
  funext x
  refine congrArg (m.view.read (Elt F) f) ?_
  funext a
  refine Fin.ext ?_
  show (![0, 0] : Fin 2 → ℕ) a + 1 * (x a).val = (x a).val
  fin_cases a <;> simp

/-- Loading the whole of a rank-2 memref that reads `X` gives `X`. -/
theorem load_whole {sp : Space} {d : Fin 2 → ℕ} {e : EltTy} {m : Memref sig .tc sp ⟨2, d⟩ e} (h : m.IsWhole)
    (X : (⟨2, d⟩ : Shape).Idx → Elt F e) (inb : ∀ a : Fin 2, (![0, 0] : Fin 2 → ℕ) a + d a ≤ d a) :
    m.view.readAt (Elt F) (Rect.unit (s := ⟨2, d⟩) ![0, 0] d inb).toLoadRect (h.unread X) = X :=
  (load_read _ inb).trans (h.read_unread X)

/-- Storing over the whole of a rank-2 memref and reading it back gives what was stored. -/
theorem read_full_write {sp : Space} {d : Fin 2 → ℕ} {e : EltTy} {m : Memref sig .tc sp ⟨2, d⟩ e}
    (f : m.view.ty.Contents (Elt F)) (inb : ∀ a : Fin 2, (![0, 0] : Fin 2 → ℕ) a + d a ≤ d a)
    (w : (⟨2, d⟩ : Shape).Idx → Elt F e) :
    m.view.read (Elt F) (m.view.writes (Elt F) f [⟨Rect.unit (s := ⟨2, d⟩) ![0, 0] d inb, w⟩]) = w := by
  funext y
  exact View.read_writes_cons_unit_of_mem _ f inb w [] y y rfl (fun a => by fin_cases a <;> simp)

/-- Reading back one stored rectangle: the stored values on the rectangle, the earlier ones elsewhere. -/
theorem read_one_write {sp : Space} {s : Shape} {e : EltTy} {m : Memref sig .tc sp s e} (h : m.IsWhole)
    (X : s.Idx → Elt F e) (r : Rect s) (w : r.shape.Idx → Elt F e) :
    m.view.read (Elt F) (m.view.writes (Elt F) (h.unread X) [⟨r, w⟩]) = r.overlay X w := by
  funext y
  by_cases hy : y ∈ r.set
  · have hy' : y ∈ Finset.univ.map r.emb := by rw [Rect.map_emb_univ]; exact hy
    obtain ⟨x, -, rfl⟩ := Finset.mem_map.mp hy'
    rw [Rect.overlay_emb]
    exact View.read_writes_cons_emb _ _ r w [] x
  · rw [Rect.overlay_of_not_mem _ _ _ hy]
    refine (View.read_slice_write_of_not_mem _ _ _ _ (by rw [Rect.map_emb_univ]; exact hy)).trans ?_
    exact congrFun (h.read_unread X) y

end Cert.KernelIdeal.RunV

end
-- ==== Proof.RunA.lean ====
module

public import proofs.«01_k».proof.Proof.RunBase

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At a point other than the last: the body leaves its four inputs as they are, and the scratch row with its own
    512 places overwritten by the block's differences. -/
theorem run_early (c : Dev nD) (i : grid0.Coords) (arg1 : Memref sig .tc .vmem S512x64 .f32) (harg1 : arg1.IsWhole) (arg2 : Memref sig .tc .vmem S64x8192 .f32) (harg2 : arg2.IsWhole) (arg3 : Memref sig .tc .vmem S512x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x8192 .f32) (harg6 : arg6.IsWhole) (hc0 : ¬lastCond i)
    (x0 : Vec F S512x64 .f32) (x1 : Vec F S64x8192 .f32) (x2 : Vec F S512x1 .i32) (x3 : Vec F S1x8192 .i32) (d : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare d
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg6 fullShare ((Rect.unit (s := S1x8192) (k0_off1 i) S1x512.size (k0_off1_inb i)).overlay d (hvOf x0 x1 x2 x3))) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part2_eq_skeleton]
    unfold owns
    iintro ⟨⟨%f0, %hf0, H0⟩, ⟨%f1, %hf1, H1⟩, ⟨%f2, %hf2, H2⟩, ⟨%f3, %hf3, H3⟩, ⟨%fs0, %hs0, HS0⟩, Hk⟩
    obtain rfl := harg1.eq_unread hf0; obtain rfl := harg2.eq_unread hf1; obtain rfl := harg3.eq_unread hf2; obtain rfl := harg4.eq_unread hf3; obtain rfl := harg6.eq_unread hs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; isplitr; swap; · iexact HS0
    ipureintro
    refine (read_one_write harg6 d _ _).trans (congrArg (Rect.overlay _ d) ?_)
    unfold run_early.sl.r run_early.sl.r_1 run_early.sl.r_2
    rw [load_whole harg1, load_whole harg2, load_whole harg3, load_whole harg4]
    rfl

end Cert.KernelIdeal.RunV

end
-- ==== Proof.RunB.lean ====
module

public import proofs.«01_k».proof.Proof.RunBase

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the last point: as at the others, and the output block holds the loss of the scratch row just completed. -/
theorem run_last (c : Dev nD) (i : grid0.Coords) (arg1 : Memref sig .tc .vmem S512x64 .f32) (harg1 : arg1.IsWhole) (arg2 : Memref sig .tc .vmem S64x8192 .f32) (harg2 : arg2.IsWhole) (arg3 : Memref sig .tc .vmem S512x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x8192 .f32) (harg6 : arg6.IsWhole) (hc0 : lastCond i)
    (x0 : Vec F S512x64 .f32) (x1 : Vec F S64x8192 .f32) (x2 : Vec F S512x1 .i32) (x3 : Vec F S1x8192 .i32) (d : Vec F S1x8192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d4, owns (c : Thread nD τ) arg5 fullShare d4) ∗ owns (c : Thread nD τ) arg6 fullShare d
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (lossOf ((Rect.unit (s := S1x8192) (k0_off1 i) S1x512.size (k0_off1_inb i)).overlay d (hvOf x0 x1 x2 x3)))
                ∗ owns (c : Thread nD τ) arg6 fullShare ((Rect.unit (s := S1x8192) (k0_off1 i) S1x512.size (k0_off1_inb i)).overlay d (hvOf x0 x1 x2 x3))) -∗ K ⟨⟩))
          ⊢ wp frame (wpE (defs₀ (F := F)) Variants.none c none) E (cc0__body i arg1 harg1 arg2 harg2 arg3 harg3 arg4 harg4 arg5 harg5 arg6 harg6) K := by
    intro E K
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, Hk⟩
    obtain rfl := harg1.eq_unread hf0; obtain rfl := harg2.eq_unread hf1; obtain rfl := harg3.eq_unread hf2; obtain rfl := harg4.eq_unread hf3; obtain rfl := harg6.eq_unread hs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (read_full_write f4 _ _).trans ?_
      have e : run_last.sl.v59 c i arg1 harg1 arg2 harg2 arg3 harg3 arg4 harg4 arg6 harg6 x0 x1 x2 x3 d
          = (Rect.unit (s := S1x8192) (k0_off1 i) S1x512.size (k0_off1_inb i)).overlay d (hvOf x0 x1 x2 x3) := by
        unfold run_last.sl.v59
        refine (load_read _ _).trans ((read_one_write harg6 d _ _).trans (congrArg (Rect.overlay _ d) ?_))
        unfold run_last.sl.r run_last.sl.r_1 run_last.sl.r_2
        rw [load_whole harg1, load_whole harg2, load_whole harg3, load_whole harg4]
        rfl
      unfold run_last.sl.r_3 run_last.sl.r_4 run_last.sl.r_5 run_last.sl.r_6 run_last.sl.v92
      rw [e]
      rfl
    iexists _; isplitr; swap; · iexact HS0
    ipureintro
    refine (read_one_write harg6 d _ _).trans (congrArg (Rect.overlay _ d) ?_)
    unfold run_last.sl.r run_last.sl.r_1 run_last.sl.r_2
    rw [load_whole harg1, load_whole harg2, load_whole harg3, load_whole harg4]
    rfl

end Cert.KernelIdeal.RunV

end
-- ==== Proof.RunC.lean ====
module

public import proofs.«01_k».proof.Proof.RunA
public import proofs.«01_k».proof.Proof.RunB
public import Idealize.ShloMosaic.Lib.Claim
public import Idealize.ShloMosaic.Lib.Pointwise

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch row holds -/

/-- The differences computed at point `t`. -/
def hvBlk (c : Dev nD) (t : Fin cfg0.N) : Vec F S1x512 .f32 :=
  hvOf (iblk m c 0 t) (iblk m c 1 t) (iblk m c 2 t) (iblk m c 3 t)

/-- The point at which a place of the scratch row is filled. -/
def ptOf (y : S1x8192.Idx) : Fin cfg0.N :=
  ⟨(y 1).val / 512, by
    have h : (y 1).val < 8192 := (y 1).isLt
    have e : cfg0.N = 16 := N_0
    omega⟩

/-- The place, within its point's 512 differences, of a place of the scratch row. -/
def inBlk (y : S1x8192.Idx) : S1x512.Idx :=
  ix2 (0 : Fin 1) ⟨(y 1).val % 512, Nat.mod_lt _ (by decide)⟩

/-- The whole scratch row once every point has run. -/
def hvRow (c : Dev nD) : Vec F S1x8192 .f32 := fun y => hvBlk m c (ptOf y) (inBlk y)

/-- A row agreeing with `hvRow` below point `t`'s places, overwritten there with point `t`'s differences, agrees with
    `hvRow` below point `t + 1`'s. -/
theorem overlay_agrees (c : Dev nD) (t : Fin cfg0.N) (d : Vec F S1x8192 .f32)
    (hd : ∀ y : S1x8192.Idx, (y 1).val < 512 * t.val → d y = hvRow m c y) (y : S1x8192.Idx)
    (hy : (y 1).val < 512 * (t.val + 1)) :
    (Rect.unit (s := S1x8192) (k0_off1 (grid0.coords t)) S1x512.size (k0_off1_inb (grid0.coords t))).overlay d
      (hvOf (iblk m c 0 t) (iblk m c 1 t) (iblk m c 2 t) (iblk m c 3 t)) y = hvRow m c y := by
  have ht : t.val < 16 := Nat.lt_of_lt_of_eq t.isLt N_0
  by_cases h : 512 * t.val ≤ (y 1).val
  · have hp : ptOf y = t := Fin.ext (by show (y 1).val / 512 = t.val; omega)
    have he : (Rect.unit (s := S1x8192) (k0_off1 (grid0.coords t)) S1x512.size (k0_off1_inb (grid0.coords t))).emb (inBlk y) = y := by
      funext a
      refine Fin.ext ?_
      show k0_off1 (grid0.coords t) a + 1 * (inBlk y a).val = (y a).val
      rw [off_eq]
      match a with
      | ⟨0, _⟩ =>
        have h0 : (y 0).val < 1 := (y 0).isLt
        have : 0 + 1 * 0 = (y 0).val := by omega
        exact this
      | ⟨1, _⟩ =>
        have : 512 * t.val + 1 * ((y 1).val % 512) = (y 1).val := by omega
        exact this
    refine (congrArg (Rect.overlay _ d _) he.symm).trans ((Rect.overlay_emb _ _ _ _).trans ?_)
    show hvBlk m c t (inBlk y) = hvBlk m c (ptOf y) (inBlk y)
    rw [hp]
  · rw [Rect.overlay_of_not_mem, hd y (by omega)]
    rw [Rect.mem_set_unit]
    intro hall
    have h1 := (hall 1).1
    rw [off_eq] at h1
    exact h h1

/-! ## The proof data -/

abbrev ms0 (t : Fin cfg0.N) : Memref sig .tc .vmem S512x64 .f32 := win0_0.stage (cfg0.slots t 0)
abbrev ms1 (t : Fin cfg0.N) : Memref sig .tc .vmem S64x8192 .f32 := win0_1.stage (cfg0.slots t 1)
abbrev ms2 (t : Fin cfg0.N) : Memref sig .tc .vmem S512x1 .i32 := win0_2.stage (cfg0.slots t 2)
abbrev ms3 (t : Fin cfg0.N) : Memref sig .tc .vmem S1x8192 .i32 := win0_3.stage (cfg0.slots t 3)
abbrev ms4 (t : Fin cfg0.N) : Memref sig .tc .vmem S1x1 .f32 := win0_4.stage (cfg0.slots t 4)
/-- The scratch row as a memref. -/
abbrev scRow : Memref sig .tc .vmem S1x8192 .f32 := Memref.whole cc0_scratch0

/-- The scratch row, with the places of the first `n` points filled. -/
def rowInv (c : Dev nD) (n : ℕ) : sProp 𝕄 :=
  iprop(∃ d, ⌜∀ y : S1x8192.Idx, (y 1).val < 512 * n → d y = hvRow m c y⌝ ∗ owns (c : Thread nD τ) scRow fullShare d)

/-- The loss of the full scratch row. -/
def lossBlk (c : Dev nD) : Vec F S1x1 .f32 := lossOf (hvRow m c)

/-- The pipeline's proof data on core `c`: inputs stay at their blocks, the output block ends as the loss of the full
    row, and between points the scratch row holds the differences of the points run so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossBlk m c
  Φ t := iprop(rowInv m c t.val ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = lossBlk m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The output window is at rest except at the last point. -/
theorem idle4 (t : Fin cfg0.N) (h : ¬ t.val = 15) : cfg0.idle 4 (grid0.coords t) = true := by
  have hc : ¬ k0_cond1 (grid0.coords t) = 1#1 := fun hh => h ((lastCond_iff t).mp hh)
  show (!(k0_cond1 (grid0.coords t) == 1#1)) = true
  simp [hc]

theorem live4 (t : Fin cfg0.N) (h : t.val = 15) : cfg0.idle 4 (grid0.coords t) = false := by
  have hc : k0_cond1 (grid0.coords t) = 1#1 := (lastCond_iff t).mpr h
  show (!(k0_cond1 (grid0.coords t) == 1#1)) = false
  simp [hc]

/-- The output window is written out at the last point only. -/
theorem noflush4 (t : Fin cfg0.N) (h : ¬ t.val = 15) : (cfg0.win 4).flush t = false := by
  have ht : t.val < 16 := Nat.lt_of_lt_of_eq t.isLt N_0
  refine Bool.eq_false_iff.mpr fun hh => ?_
  have := (flush0_4 t).mp hh
  omega

/-- The region's invariant, the scratch row owned at some contents. -/
theorem PhiA_eq (c : Dev nD) :
    (Pipeline.ΦA spec0 c : sProp 𝕄)
      = iprop(iprop((∃ d, owns (c : Thread nD τ) scRow fullShare d)) ∗ (∃ r, prngReg c r)) := by
  unfold Pipeline.ΦA; rw [scopedRest0_eq]; simp only [scRow, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point: from the blocks and the places filled so far to the same blocks and one point's more
    places, and at the last point the loss. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.castSucc = iprop(rowInv m c t.val ∗ (∃ r, prngReg c r)) from rfl,
    show (dats m 0 c).Φ t.succ = iprop(rowInv m c (t.val + 1) ∗ (∃ r, prngReg c r)) from rfl]
  rw [show (dats m 0 c).leavesExact 0 t = owns (c : Thread nD τ) (ms0 t) fullShare ((dats m 0 c).after 0 t) from by
      unfold Dat.leavesExact; rw [show cfg0.idle 0 (grid0.coords t) = false from rfl], after0]
  rw [show (dats m 0 c).leavesExact 1 t = owns (c : Thread nD τ) (ms1 t) fullShare ((dats m 0 c).after 1 t) from by
      unfold Dat.leavesExact; rw [show cfg0.idle 1 (grid0.coords t) = false from rfl], after1]
  rw [show (dats m 0 c).leavesExact 2 t = owns (c : Thread nD τ) (ms2 t) fullShare ((dats m 0 c).after 2 t) from by
      unfold Dat.leavesExact; rw [show cfg0.idle 2 (grid0.coords t) = false from rfl], after2]
  rw [show (dats m 0 c).leavesExact 3 t = owns (c : Thread nD τ) (ms3 t) fullShare ((dats m 0 c).after 3 t) from by
      unfold Dat.leavesExact; rw [show cfg0.idle 3 (grid0.coords t) = false from rfl], after3]
  unfold rowInv
  by_cases h0 : t.val = 15
  · rw [show (dats m 0 c).leavesExact 4 t = owns (c : Thread nD τ) (ms4 t) fullShare ((dats m 0 c).after 4 t) from by
      unfold Dat.leavesExact; rw [live4 t h0], after4]
    iintro ⟨⟨⟨%d, %hd, HS0⟩, Hg⟩, Ho, ⟨%d0, H0⟩, ⟨%d1, H1⟩, ⟨%d2, H2⟩, ⟨%d3, H3⟩, ⟨%d4, H4⟩⟩
    have hag := overlay_agrees m c t d hd
    have hfull : (Rect.unit (s := S1x8192) (k0_off1 (grid0.coords t)) S1x512.size (k0_off1_inb (grid0.coords t))).overlay d
        (hvOf (iblk m c 0 t) (iblk m c 1 t) (iblk m c 2 t) (iblk m c 3 t)) = hvRow m c := by
      funext y
      have hy : (y 1).val < 8192 := (y 1).isLt
      exact hag y (by omega)
    iapply ((run_last c (grid0.coords t) _ _ _ _ _ _ _ _ _ _ _ _ ((lastCond_iff t).mpr h0) (iblk m c 0 t) (iblk m c 1 t) (iblk m c 2 t) (iblk m c 3 t) d) Set.univ _)
    isplitl [H0]; · iexact H0
    isplitl [H1]; · iexact H1
    isplitl [H2]; · iexact H2
    isplitl [H3]; · iexact H3
    isplitl [H4]; · iexists _; iexact H4
    isplitl [HS0]; · iexact HS0
    rw [hfull]
    iintro ⟨H0, H1, H2, H3, H4, HS0⟩
    isplitl [HS0 Hg]
    · isplitl [HS0]
      · iexists _; isplitr; swap; · iexact HS0
        ipureintro; exact fun _ _ => rfl
      iexact Hg
    isplitl [Ho]; · iexact Ho
    isplitl [H0]; · iexact H0
    isplitl [H1]; · iexact H1
    isplitl [H2]; · iexact H2
    isplitl [H3]; · iexact H3
    iexact H4
  · rw [(dats m 0 c).leavesExact_idle 4 t (idle4 t h0) (noflush4 t h0)]
    iintro ⟨⟨⟨%d, %hd, HS0⟩, Hg⟩, Ho, ⟨%d0, H0⟩, ⟨%d1, H1⟩, ⟨%d2, H2⟩, ⟨%d3, H3⟩, H4⟩
    have hag := overlay_agrees m c t d hd
    iapply ((run_early c (grid0.coords t) _ _ _ _ _ _ _ _ _ _ _ _ (fun h => h0 ((lastCond_iff t).mp h)) (iblk m c 0 t) (iblk m c 1 t) (iblk m c 2 t) (iblk m c 3 t) d) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; swap; · iexact HS0
        ipureintro; exact hag
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : (Pipeline.ΦA spec0 c : sProp 𝕄) ⊢ (dats m 0 c).Φ 0 := by
  rw [PhiA_eq, show (dats m 0 c).Φ 0 = iprop(rowInv m c 0 ∗ (∃ r, prngReg c r)) from rfl]
  unfold rowInv
  iintro ⟨⟨%d, HS0⟩, Hg⟩
  isplitl [HS0]
  · iexists _; isplitr; swap; · iexact HS0
    ipureintro
    intro y hy
    exact absurd hy (by omega)
  iexact Hg

theorem hout (c : Dev nD) : (dats m 0 c).Φ (Fin.last cfg0.N) ⊢ (Pipeline.ΦA spec0 c : sProp 𝕄) := by
  rw [PhiA_eq, show (dats m 0 c).Φ (Fin.last cfg0.N) = iprop(rowInv m c cfg0.N ∗ (∃ r, prngReg c r)) from rfl]
  unfold rowInv
  iintro ⟨⟨%d, -, HS0⟩, Hg⟩
  isplitl [HS0]
  · iexists _; iexact HS0
  iexact Hg

set_option backward.isDefEq.respectTransparency.types false in
/-- The launch: every final state has each array as the proof data ends it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.RunV

end
-- ==== Proof.RunD.lean ====
module

public import proofs.«01_k».proof.Proof.RunC
public import Idealize.ShloMosaic.Lib.StableHlo.RunRead
public import Idealize.ShloMosaic.Lib.Pointwise

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays the region finds -/

/-- The transposed points. -/
theorem V_v0 (c : Dev nD) :
    (V m c main_v0 : Vec F S64x8192 .f32) = transpose S64x8192 [1, 0] (m ((c : Thread nD τ).loc main_arg0)) transposes_S8192x64_S64x8192_1_0 := by
  show StableHlo.after hostOps0 (fun b => m (c, b)) (Proc.devRef .tc main_v0) = _
  after_reads_simp
  try rfl

/-- The labels as a column. -/
theorem V_v1 (c : Dev nD) :
    (V m c main_v1 : Vec F S8192x1 .i32) = shapeCast S8192x1 (m ((c : Thread nD τ).loc main_arg1)) shapeCasts_S8192_S8192x1 := by
  show StableHlo.after hostOps0 (fun b => m (c, b)) (Proc.devRef .tc main_v1) = _
  after_reads_simp
  try rfl

/-- The labels as a row. -/
theorem V_v2 (c : Dev nD) :
    (V m c main_v2 : Vec F S1x8192 .i32) = shapeCast S1x8192 (m ((c : Thread nD τ).loc main_arg1)) shapeCasts_S8192_S1x8192 := by
  show StableHlo.after hostOps0 (fun b => m (c, b)) (Proc.devRef .tc main_v2) = _
  after_reads_simp
  try rfl

/-! ## The blocks, by coordinates -/

/-- Row `r` of point `t`'s block is row `512 t + r` of the array. -/
def rowAt (t : Fin cfg0.N) (r : Fin 512) : Fin 8192 :=
  ⟨512 * t.val + r.val, by have := t.isLt; have e : cfg0.N = 16 := N_0; omega⟩

theorem index0 (t : Fin cfg0.N) : win0_0.index t 0 = t.val ∧ win0_0.index t 1 = 0 := by
  have ht : t.val < 16 := Nat.lt_of_lt_of_eq t.isLt N_0
  have e0 : (grid0.coords t 0).val = t.val / 1 % 16 := Pipeline.Grid.coords_val (G := grid0) t 0 (by decide) rfl
  refine ⟨?_, rfl⟩
  show (BitVec.ofNat 32 (grid0.coords t 0).val).toNat = t.val
  rw [BitVec.toNat_ofNat, e0]
  omega

theorem index2 (t : Fin cfg0.N) : win0_2.index t 0 = t.val ∧ win0_2.index t 1 = 0 := by
  have ht : t.val < 16 := Nat.lt_of_lt_of_eq t.isLt N_0
  have e0 : (grid0.coords t 0).val = t.val / 1 % 16 := Pipeline.Grid.coords_val (G := grid0) t 0 (by decide) rfl
  refine ⟨?_, rfl⟩
  show (BitVec.ofNat 32 (grid0.coords t 0).val).toNat = t.val
  rw [BitVec.toNat_ofNat, e0]
  omega

theorem iblk0_apply (c : Dev nD) (t : Fin cfg0.N) (r : Fin 512) (k : Fin 64) :
    (iblk m c 0 t : Vec F S512x64 .f32) (ix2 r k)
      = (m ((c : Thread nD τ).loc main_arg0) : Vec F S8192x64 .f32) (ix2 (rowAt t r) k) := by
  show V m c main_arg0 (((cfg0.win 0).blk t).view.emb (ix2 r k)) = _
  rw [V_main_arg0]
  refine congrArg (m ((c : Thread nD τ).loc main_arg0) : Vec F S8192x64 .f32) (funext fun a => Fin.ext ?_)
  match a with
  | ⟨0, _⟩ => show win0_0.index t 0 * 512 + 1 * r.val = 512 * t.val + r.val; rw [(index0 t).1]; omega
  | ⟨1, _⟩ => show win0_0.index t 1 * 64 + 1 * k.val = k.val; rw [(index0 t).2]; omega

theorem iblk1_apply (c : Dev nD) (t : Fin cfg0.N) (k : Fin 64) (j : Fin 8192) :
    (iblk m c 1 t : Vec F S64x8192 .f32) (ix2 k j)
      = (m ((c : Thread nD τ).loc main_arg0) : Vec F S8192x64 .f32) (ix2 j k) := by
  show (V m c main_v0 : Vec F S64x8192 .f32) (((cfg0.win 1).blk t).view.emb (ix2 k j)) = _
  rw [V_v0, show (((cfg0.win 1).blk t).view.emb (ix2 k j) : S64x8192.Idx) = ix2 k j from funext fun a => Fin.ext (by
    match a with
    | ⟨0, _⟩ => show 0 * 64 + 1 * k.val = k.val; omega
    | ⟨1, _⟩ => show 0 * 8192 + 1 * j.val = j.val; omega)]
  pointwise

theorem iblk2_apply (c : Dev nD) (t : Fin cfg0.N) (r : Fin 512) :
    (iblk m c 2 t : Vec F S512x1 .i32) (ix2 r (0 : Fin 1))
      = (m ((c : Thread nD τ).loc main_arg1) : Vec F S8192 .i32) (ix1 (rowAt t r)) := by
  show (V m c main_v1 : Vec F S8192x1 .i32) (((cfg0.win 2).blk t).view.emb (ix2 r (0 : Fin 1))) = _
  rw [V_v1, show (((cfg0.win 2).blk t).view.emb (ix2 r (0 : Fin 1)) : S8192x1.Idx) = ix2 (rowAt t r) (0 : Fin 1) from funext fun a => Fin.ext (by
    match a with
    | ⟨0, _⟩ => show win0_2.index t 0 * 512 + 1 * r.val = 512 * t.val + r.val; rw [(index2 t).1]; omega
    | ⟨1, _⟩ => show win0_2.index t 1 * 1 + 1 * 0 = 0; rw [(index2 t).2])]
  pointwise

/-- A vector of `n` entries reshaped to one row. -/
theorem cast_row {α : Type} {n : ℕ} (x : (⟨1, ![n]⟩ : Shape).Idx → α) (h : (⟨1, ![n]⟩ : Shape).ShapeCasts ⟨2, ![1, n]⟩)
    (i : Fin 1) (j : Fin n) : shapeCast (⟨2, ![1, n]⟩ : Shape) x h (ix2 i j) = x (ix1 j) := by
  refine shapeCast_apply x h _ _ ?_
  rw [rowMajor_val1, rowMajor_val2 _ n rfl]
  have hi := i.isLt
  show j.val = i.val * n + j.val
  rw [show i.val = 0 by omega, Nat.zero_mul, Nat.zero_add]

theorem iblk3_apply (c : Dev nD) (t : Fin cfg0.N) (j : Fin 8192) :
    (iblk m c 3 t : Vec F S1x8192 .i32) (ix2 (0 : Fin 1) j)
      = (m ((c : Thread nD τ).loc main_arg1) : Vec F S8192 .i32) (ix1 j) := by
  show (V m c main_v2 : Vec F S1x8192 .i32) (((cfg0.win 3).blk t).view.emb (ix2 (0 : Fin 1) j)) = _
  rw [V_v2, show (((cfg0.win 3).blk t).view.emb (ix2 (0 : Fin 1) j) : S1x8192.Idx) = ix2 (0 : Fin 1) j from funext fun a => Fin.ext (by
    match a with
    | ⟨0, _⟩ => show 0 * 1 + 1 * 0 = 0; omega
    | ⟨1, _⟩ => show 0 * 8192 + 1 * j.val = j.val; omega)]
  exact cast_row _ _ 0 j

/-! ## The result -/

/-- The last point writes the loss block over the whole result array. -/
theorem flushed_eq (c : Dev nD) (t : Fin cfg0.N) :
    (dats m 0 c).flushed 4 t = (win0_4.blk t).view.read (Elt F) (lossBlk m c) := by
  show (cfg0.win 4).cut (grid0.coords t) ((dats m 0 c).after 4 t) = _
  rw [after4]
  have hz' : (fun a => win0_4.index t a * main_v3.ty.shape.size a) = fun _ => 0 :=
    funext fun a => by fin_cases a <;> rfl
  exact (Memref.read_access_unit_zero (Elt F) main_v3 hz' (fun a => by rw [congrFun hz' a]; simp) (lossBlk m c)).symm

/-- The last point. -/
def lastPt : Fin cfg0.N := ⟨15, by have e : cfg0.N = 16 := N_0; omega⟩

theorem cover (i : main_v3.ty.Idx) :
    ∃ t : Fin cfg0.N, (cfg0.win 4).flush t = true ∧ i ∈ ((cfg0.win 4).blk t).view.set := by
  refine ⟨lastPt, (flush0_4 _).mpr rfl, ?_⟩
  show i ∈ ((View.whole main_v3).slice (win0_4.rect lastPt)).set
  rw [View.set_slice_whole, Rect.mem_set_unit]
  intro a
  match a with
  | ⟨0, _⟩ =>
    have h0 : (i 0 : Nat) < 1 := (i 0).isLt
    show 0 * 1 ≤ (i 0 : Nat) ∧ (i 0 : Nat) < 0 * 1 + 1
    omega
  | ⟨1, _⟩ =>
    have h1 : (i 1 : Nat) < 1 := (i 1).isLt
    show 0 * 1 ≤ (i 1 : Nat) ∧ (i 1 : Nat) < 0 * 1 + 1
    omega

theorem final_out (c : Dev nD) : (dats m 0 c).arrAt 4 cfg0.N = lossBlk m c :=
  (dats m 0 c).arrAt_eq_of_cover 4 (lossBlk m c) (fun t _ => flushed_eq m c t) cover

/-- The run, read: the result array is the loss of the full row of differences, the arguments end as launched. -/
theorem run : θ_run defs (onTc (τ := τ) (main (F := F))) ⟨m, fun _ => 0, ρ⟩ (fun r => ∀ c : Dev nD,
      r.2.mem ((c.tc : Thread nD τ).loc main_v3) = lossBlk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h.1 c).1 4).trans (final_out m c)), h.2.1 c⟩)
    (θ_run_and ((θ_run defs _ _).mono (fun _ h => h.1) (run_main m ρ)) (frame m ρ))

end Cert.KernelIdeal.RunV

end
-- ==== Proof.KerRow.lean ====
module

public import proofs.«01_k».proof.Proof.RunBase
public import proofs.«01_k».proof.Proof.Consts
public import Idealize.ShloMosaic.Lib.Pointwise

@[expose] public section

set_option maxRecDepth 16384

noncomputable section

namespace Cert.KernelIdeal.RunV

open Cert.KernelIdeal Cert.KernelIdeal.Gen Cert.Hist
open Idealize.ShloMosaic

/-- A maximum over a finite range, started from the least number, is a supremum. -/
theorem fold_max_iSup {ι : Type} [Fintype ι] (f : ι → EReal) : Finset.univ.fold max ⊥ f = ⨆ i, f i :=
  (Finset.sup_univ_eq_iSup f)

/-- A minimum over a finite range, started from the greatest number, is an infimum. -/
theorem fold_min_iInf {ι : Type} [Fintype ι] (f : ι → EReal) : Finset.univ.fold min ⊤ f = ⨅ i, f i :=
  (Finset.inf_univ_eq_iInf f)

/-- A choice by an equality test of words is a choice by their equality. -/
theorem select_eq_if {n : Nat} {α : Type} (a b : BitVec n) (x y : α) :
    Scalar.select (IntOp.cmpi .eq a b) x y = if a = b then x else y := by
  by_cases h : a = b
  · simp [Scalar.select, IntOp.cmpi, h]
  · have e : (a == b) = false := by simpa using h
    simp [Scalar.select, IntOp.cmpi, h, e]

theorem pay11_at (x0 : Vec Ideal S512x64 .f32) (r : Fin 512) :
    k0_pay11 x0 (ix1 r) = ∑ k, x0 (ix2 r k) * x0 (ix2 r k) := by
  pointwise [k0_pay11]

theorem pay12_at (x0 : Vec Ideal S512x64 .f32) (x1 : Vec Ideal S64x8192 .f32) (r : Fin 512) (j : Fin 8192) :
    k0_pay12 x0 x1 (ix2 r j) = (∑ k : Fin 64, (0 - x0 (ix2 r k)) * x1 (ix2 k j))
      + (((1 / 2 : ℝ) : EReal) * (∑ k, x1 (ix2 k j) * x1 (ix2 k j))
        + (((1 / 2 : ℝ) : EReal) * (∑ k, x1 (ix2 k j) * x1 (ix2 k j))
          - ((1 / 2 : ℝ) : EReal) * (∑ k, x1 (ix2 k j) * x1 (ix2 k j)))) := by
  pointwise [k0_pay12]
  rw [lit_half]
  generalize ((1 / 2 : ℝ) : EReal) * (∑ k, x1 (ix2 k j) * x1 (ix2 k j)) = h
  refine (Fin.sum_univ_add (a := 64) (b := 2) _).trans ?_
  simp [Fin.sum_univ_two]

theorem pay13_at (x2 : Vec Ideal S512x1 .i32) (x3 : Vec Ideal S1x8192 .i32) (r : Fin 512) (j : Fin 8192) :
    k0_pay13 (F := Ideal) x2 x3 (ix2 r j) = IntOp.cmpi .eq (x2 (ix2 r 0)) (x3 (ix2 0 j)) := by
  pointwise [k0_pay13]

theorem max_row (w : FVec Ideal S512x8192 .bf16) (r : Fin 512) :
    multiReduction .maximumf [1] S512 w 0xFF80#16 reduces_S512x8192_S512 (.inr rfl) rfl (ix1 r)
      = ⨆ j, w (ix2 r j) := by
  refine Eq.trans (b := Finset.univ.fold max (Ideal.ofBits .bf16 0xFF80#16) fun j => w (ix2 r j)) ?_ ?_
  · pointwise
  · rw [lit_bot16, fold_max_iSup]

theorem min_row (w : FVec Ideal S512x8192 .bf16) (r : Fin 512) :
    multiReduction .minimumf [1] S512 w 0x7F80#16 reduces_S512x8192_S512 (.inr rfl) rfl (ix1 r)
      = ⨅ j, w (ix2 r j) := by
  refine Eq.trans (b := Finset.univ.fold min (Ideal.ofBits .bf16 0x7F80#16) fun j => w (ix2 r j)) ?_ ?_
  · pointwise
  · rw [lit_top16, fold_min_iInf]

theorem ext_row (w : FVec Ideal S512 .bf16) (r : Fin 512) : extf .f32 w bitsLt_bf16_f32 (ix1 r) = w (ix1 r) := by
  pointwise

theorem twice_row (w : FVec Ideal S512 .bf16) (r : Fin 512) :
    mulf (broadcast S512 (Scalar.ofBits .f32 0x40000000#32)) (extf .f32 w bitsLt_bf16_f32) (ix1 r) = 2 * w (ix1 r) := by
  rw [← lit_two]
  pointwise

/-- A choice by the labels between two vectors, read at an entry. -/
theorem pick_at (x2 : Vec Ideal S512x1 .i32) (x3 : Vec Ideal S1x8192 .i32) (a b : FVec Ideal S512x8192 .bf16)
    (r : Fin 512) (j : Fin 8192) :
    select (k0_pay13 (F := Ideal) x2 x3) a b (ix2 r j)
      = if x2 (ix2 r 0) = x3 (ix2 0 j) then a (ix2 r j) else b (ix2 r j) := by
  rw [← select_eq_if, ← pay13_at]
  rfl

theorem fill_at (c : Ideal .bf16) (r : Fin 512) (j : Fin 8192) : broadcast S512x8192 c (ix2 r j) = c := rfl

theorem pay14_at (x0 : Vec Ideal S512x64 .f32) (x1 : Vec Ideal S64x8192 .f32) (x2 : Vec Ideal S512x1 .i32)
    (x3 : Vec Ideal S1x8192 .i32) (r : Fin 512) :
    k0_pay14 x0 x1 x2 x3 (ix1 r)
      = ⨅ j, if x2 (ix2 r 0) = x3 (ix2 0 j) then ⊤ else k0_pay12 x0 x1 (ix2 r j) := by
  unfold k0_pay14
  dsimp only
  rw [ext_row, min_row]
  refine iInf_congr fun j => ?_
  rw [pick_at, fill_at]
  exact congrArg (fun c => if x2 (ix2 r 0) = x3 (ix2 0 j) then c else k0_pay12 x0 x1 (ix2 r j)) lit_top16

theorem pay15_at (x0 : Vec Ideal S512x64 .f32) (x1 : Vec Ideal S64x8192 .f32) (x2 : Vec Ideal S512x1 .i32)
    (x3 : Vec Ideal S1x8192 .i32) (r : Fin 512) :
    k0_pay15 x0 x1 x2 x3 (ix1 r)
      = 2 * ⨆ j, if x2 (ix2 r 0) = x3 (ix2 0 j) then k0_pay12 x0 x1 (ix2 r j) else ⊥ := by
  unfold k0_pay15
  dsimp only
  rw [twice_row, max_row]
  refine congrArg (2 * ·) (iSup_congr fun j => ?_)
  rw [pick_at, fill_at]
  exact congrArg (fun c => if x2 (ix2 r 0) = x3 (ix2 0 j) then k0_pay12 x0 x1 (ix2 r j) else c) lit_bot16

theorem pay1_at (a b c : FVec Ideal S512 .f32) (r : Fin 512) :
    k0_pay1 a b c (ix2 (0 : Fin 1) r)
      = Ideal.sqrt (max eps (a (ix1 r) + c (ix1 r))) - Ideal.sqrt (max eps (a (ix1 r) + 2 * b (ix1 r))) := by
  rw [← lit_two]
  unfold eps
  pointwise [k0_pay1]

end Cert.KernelIdeal.RunV
end
-- ==== Proof.KerLoss.lean ====
module

public import proofs.«01_k».proof.Proof.KerRow

@[expose] public section

set_option maxRecDepth 16384

noncomputable section

namespace Cert.KernelIdeal.RunV

open Cert.KernelIdeal Cert.KernelIdeal.Gen Cert.Hist
open Idealize.ShloMosaic

/-- The row of differences as a function of the sample. -/
abbrev rowOf (v : Vec Ideal S1x8192 .f32) : Fin 8192 → EReal := fun j => v (ix2 0 j)

theorem pay3_eq (v : Vec Ideal S1x8192 .f32) : k0_pay3 v = lowest (rowOf v) := by
  pointwise [k0_pay3]
  rw [lit_neg_two, lit_top, fold_min_iInf, iInf_prod]
  simp [lowest, rowOf]

theorem pay4_eq (v : Vec Ideal S1x8192 .f32) : k0_pay4 v = width (rowOf v) := by
  pointwise [k0_pay4]
  rw [lit_two, lit_bot, lit_63, fold_max_iSup, iSup_prod, pay3_eq]
  simp [width, rowOf]

theorem pay5_at (v : Vec Ideal S1x8192 .f32) (j : Fin 8192) : k0_pay5 v (ix2 0 j) = bin (rowOf v) j := by
  pointwise [k0_pay5]
  rw [pay3_eq, pay4_eq]
  rfl

theorem pay6_at (v : Vec Ideal S1x8192 .f32) (j : Fin 8192) : k0_pay6 v (ix2 0 j) = share (rowOf v) j := by
  pointwise [k0_pay6]
  rw [pay3_eq, pay4_eq, pay5_at]
  rfl

theorem pay7_at (v : Vec Ideal S1x8192 .f32) (b : Fin 64) (j : Fin 8192) :
    k0_pay7 v (ix2 b j) = if BitVec.ofNat 32 b = bin (rowOf v) j then share (rowOf v) j else 0 := by
  pointwise [k0_pay7]
  rw [pay5_at, pay6_at, select_eq_if]

theorem pay8_at (v : Vec Ideal S1x8192 .f32) (b : Fin 64) (j : Fin 8192) :
    k0_pay8 v (ix2 b j) = IntOp.cmpi .eq (BitVec.ofNat 32 b) (IntOp.minsi (bin (rowOf v) j + 1#32) 63#32) := by
  pointwise [k0_pay8]
  rw [pay5_at]
  rfl

theorem pay9_at (v : Vec Ideal S1x8192 .f32) (b : Fin 64) (j : Fin 8192) :
    k0_pay9 v (ix2 b j) = 1 - share (rowOf v) j := by
  pointwise [k0_pay9]
  rw [pay6_at]

theorem pay10_at (b : Fin 64) (j : Fin 8192) : (k0_pay10 : FVec Ideal S64x8192 .f32) (ix2 b j) = 0 := by
  pointwise [k0_pay10]

theorem iota_at (b : Fin 64) (j : Fin 8192) :
    iota .tc S64x8192 32 [0] iota_S64x8192_d0_w32 (ix2 b j) = BitVec.ofNat 32 b := by
  pointwise

/-- A choice by a truth value written as a bit. -/
theorem select_ofBool_if {α : Type} (b : Bool) (x y : α) : Scalar.select (BitVec.ofBool b) x y = if b then x else y := by
  cases b
  · exact if_neg (by decide)
  · exact if_pos rfl

/-- The last step of the kernel at general arguments. -/
theorem pay2_at (v59 : Vec Ideal S1x8192 .f32) (v77 : IVec S1x8192 32) (v92 : IVec S64x8192 32)
    (v98 : FVec Ideal S64x8192 .f32) (v100 : IVec S64x8192 1) (v104 : FVec Ideal S64x8192 .f32)
    (v105 : FVec Ideal S64x8192 .f32) (g : Fin 64 → EReal)
    (hg : ∀ b, (∑ j, (v98 (ix2 b j) + Scalar.select (v100 (ix2 b j)) (v104 (ix2 b j)) (v105 (ix2 b j)))) = g b) :
    k0_pay2 v59 v77 v92 v98 v100 v104 v105 (ix2 0 0)
      = Ideal.div (∑ i, v59 (ix2 0 i) * ∑ b : Fin 64,
          Scalar.select (IntOp.cmpi .sle (v92 (ix2 b i)) (v77 (ix2 0 i))) (dens (norm g) b) 0) 8192 := by
  pointwise [k0_pay2]
  simp only [hg, lit_8192, Finset.univ_unique, Finset.sum_singleton]
  rfl

/-- The kernel's loss from its row of differences. -/
theorem lossOf_at (v : Vec Ideal S1x8192 .f32) : lossOf v (ix2 0 0) = lossK (rowOf v) := by
  unfold lossOf
  rw [pay2_at (g := histK (rowOf v))]
  · unfold lossK weightK
    refine congrArg (Ideal.div · 8192) (Finset.sum_congr rfl fun i _ => congrArg (rowOf v i * ·)
      (Finset.sum_congr rfl fun b _ => ?_))
    rw [iota_at, pay5_at]
    exact select_ofBool_if _ _ _
  · intro b
    unfold histK
    refine Finset.sum_congr rfl fun i _ => ?_
    rw [pay7_at, pay8_at, pay9_at, pay10_at, select_eq_if]

end Cert.KernelIdeal.RunV
end
-- ==== Proof.KerVal.lean ====
module

public import proofs.«01_k».proof.Proof.RunD
public import proofs.«01_k».proof.Proof.KerRow
public import proofs.«01_k».proof.Proof.KerLoss

/-!
# What the kernel computes

The row of differences in terms of the samples and labels, and the loss of that row.
-/

@[expose] public section

set_option maxRecDepth 16384

noncomputable section

namespace Cert.KernelIdeal.RunV

open Cert.KernelIdeal Cert.KernelIdeal.Gen Cert.Hist
open Idealize.ShloMosaic Idealize.ShloMosaic.TcCoe

variable (m : (ℓ : Loc nD τ sig) → Buf (Elt Ideal) ℓ)

/-- The samples on core `c`. -/
def memX (c : Dev nD) (i : Fin 8192) (k : Fin 64) : EReal :=
  (m ((c : Thread nD τ).loc main_arg0) : Vec Ideal S8192x64 .f32) (ix2 i k)

/-- The labels on core `c`. -/
def memT (c : Dev nD) (i : Fin 8192) : BitVec 32 :=
  (m ((c : Thread nD τ).loc main_arg1) : Vec Ideal S8192 .i32) (ix1 i)

/-- One entry of a block of differences. -/
theorem hvOf_at (x0 : Vec Ideal S512x64 .f32) (x1 : Vec Ideal S64x8192 .f32) (x2 : Vec Ideal S512x1 .i32)
    (x3 : Vec Ideal S1x8192 .i32) (X : Fin 8192 → Fin 64 → EReal) (T : Fin 8192 → BitVec 32) (r : Fin 512) (i : Fin 8192)
    (h0 : ∀ k, x0 (ix2 r k) = X i k) (h1 : ∀ k j, x1 (ix2 k j) = X j k) (h2 : x2 (ix2 r (0 : Fin 1)) = T i)
    (h3 : ∀ j, x3 (ix2 (0 : Fin 1) j) = T j) :
    hvOf x0 x1 x2 x3 (ix2 (0 : Fin 1) r) = hvK X T i := by
  unfold hvOf
  rw [pay1_at, pay11_at, pay14_at, pay15_at]
  have hp : ∀ j, k0_pay12 x0 x1 (ix2 r j) = half X i j := fun j => by
    rw [pay12_at]
    simp only [h0, h1]
    rfl
  simp only [hp, h0, h2, h3]
  rfl

/-- One entry of a point's block. -/
theorem hvBlk_at (c : Dev nD) (t : Fin cfg0.N) (r : Fin 512) :
    hvBlk m c t (ix2 (0 : Fin 1) r) = hvK (memX m c) (memT m c) (rowAt t r) :=
  hvOf_at _ _ _ _ _ _ r (rowAt t r) (iblk0_apply m c t r) (iblk1_apply m c t) (iblk2_apply m c t r) (iblk3_apply m c t)

/-- The whole row of differences. -/
theorem hvRow_eq (c : Dev nD) : rowOf (hvRow m c) = hvK (memX m c) (memT m c) := by
  funext j
  show hvBlk m c (ptOf (ix2 (0 : Fin 1) j)) (inBlk (ix2 (0 : Fin 1) j)) = _
  have e : inBlk (ix2 (0 : Fin 1) j) = ix2 (0 : Fin 1) ⟨j.val % 512, Nat.mod_lt _ (by decide)⟩ := rfl
  rw [e, hvBlk_at]
  refine congrArg _ (Fin.ext ?_)
  show 512 * (j.val / 512) + j.val % 512 = j.val
  omega

/-- The kernel's result. -/
theorem lossBlk_at (c : Dev nD) : lossBlk m c (ix2 0 0) = lossK (hvK (memX m c) (memT m c)) := by
  unfold lossBlk
  rw [lossOf_at, hvRow_eq]

end Cert.KernelIdeal.RunV
end
-- ==== Proof.RefRun.lean ====
/-
The reference's `main` as a list of host operations, and its run: it ends with its result at the composed
term of the arguments, the arguments unchanged.  The list, the terms and the run are those of the set-up for
the reference; the equation of the program's first window with its list goes through one lemma per called
function (`clip_seq` to `clip1_seq`).
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 147 (window `main_part0`). -/
abbrev ops_part0_0 : List (HloOp τ sig (Elt F)) :=
  [ binary main_arg0 main_arg0 main_v0 (mulf : (⟨S8192x64, .f32⟩ : BufTy).Contents (Elt F) → (⟨S8192x64, .f32⟩ : BufTy).Contents (Elt F) → (⟨S8192x64, .f32⟩ : BufTy).Contents (Elt F)),
    nullary main_cst (constant S_ .f32 0x00000000#32),
    binary main_v0 main_cst main_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    unary main_arg0 main_v7 ((transpose S64x8192 [1, 0] · transposes_S8192x64_S64x8192_1_0) : (⟨S8192x64, .f32⟩ : BufTy).Contents (Elt F) → (⟨S64x8192, .f32⟩ : BufTy).Contents (Elt F)),
    binary main_arg0 main_v7 main_v8 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x2B8CBCCC#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v11) (TRef.of (T := ⟨S8192x8192, .f32⟩) main_v12) maximumf,
    unary main_v12 main_v13 (Host.sqrt : (⟨S8192x8192, .f32⟩ : BufTy).Contents (Elt F) → (⟨S8192x8192, .f32⟩ : BufTy).Contents (Elt F)),
    unary main_arg1 main_v14 (broadcastInDim S8192x1 ![0] bcast_S8192_S8192x1_0 : (⟨S8192, .i32⟩ : BufTy).Contents (Elt F) → (⟨S8192x1, .i32⟩ : BufTy).Contents (Elt F)),
    unary main_arg1 main_v15 (broadcastInDim S1x8192 ![1] bcast_S8192_S1x8192_1 : (⟨S8192, .i32⟩ : BufTy).Contents (Elt F) → (⟨S1x8192, .i32⟩ : BufTy).Contents (Elt F)),
    unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    unary main_v15 main_v17 (broadcastInDim S8192x8192 ![0, 1] bcast_S1x8192_S8192x8192_0_1 : (⟨S1x8192, .i32⟩ : BufTy).Contents (Elt F) → (⟨S8192x8192, .i32⟩ : BufTy).Contents (Elt F)),
    binary main_v16 main_v17 main_v18 (cmpi .eq : (⟨S8192x8192, .i32⟩ : BufTy).Contents (Elt F) → (⟨S8192x8192, .i32⟩ : BufTy).Contents (Elt F) → (⟨S8192x8192, .i1⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v18) (TRef.of (T := ⟨S8192x8192, .f32⟩) main_v13) (TRef.of (T := ⟨S8192x8192, .f32⟩) main_call1_v1) (TRef.of (T := ⟨S8192x8192, .f32⟩) main_v19) select,
    nullary main_cst_3 (constant S_ .f32 0xFF800000#32),
    binary main_v19 main_cst_3 main_v20 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- @main's operations 31 … 60 of 147 (window `main_part0`). -/
abbrev ops_part0_1 : List (HloOp τ sig (Elt F)) :=
  [ nullary main_cst_4 (constant S_ .f32 0x7F800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v18) (TRef.of (T := ⟨S8192x8192, .f32⟩) main_call2_v1) (TRef.of (T := ⟨S8192x8192, .f32⟩) main_v13) (TRef.of (T := ⟨S8192x8192, .f32⟩) main_v21) select,
    nullary main_cst_5 (constant S_ .f32 0x7F800000#32),
    binary main_v21 main_cst_5 main_v22 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v20 main_v22 main_v23 (subf : (⟨S8192, .f32⟩ : BufTy).Contents (Elt F) → (⟨S8192, .f32⟩ : BufTy).Contents (Elt F) → (⟨S8192, .f32⟩ : BufTy).Contents (Elt F)),
    nullary main_cst_6 (constant S_ .f32 0xFF800000#32),
    binary main_v23 main_cst_6 main_v24 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x40000000#32),
    binary main_cst_7 main_v24 main_v25 (maximumf : (⟨S_, .f32⟩ : BufTy).Contents (Elt F) → (⟨S_, .f32⟩ : BufTy).Contents (Elt F) → (⟨S_, .f32⟩ : BufTy).Contents (Elt F)),
    nullary main_cst_8 (constant S_ .f32 0x7F800000#32),
    binary main_v23 main_cst_8 main_v26 ((fun x v => Host.reduce FloatOps.minimumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_9 (constant S_ .f32 0xC0000000#32),
    binary main_cst_9 main_v26 main_v27 (minimumf : (⟨S_, .f32⟩ : BufTy).Contents (Elt F) → (⟨S_, .f32⟩ : BufTy).Contents (Elt F) → (⟨S_, .f32⟩ : BufTy).Contents (Elt F)),
    binary main_v25 main_v27 main_v28 (subf : (⟨S_, .f32⟩ : BufTy).Contents (Elt F) → (⟨S_, .f32⟩ : BufTy).Contents (Elt F) → (⟨S_, .f32⟩ : BufTy).Contents (Elt F)),
    nullary main_cst_10 (constant S_ .f32 0x427C0000#32),
    binary main_v28 main_cst_10 main_v29 (Host.divf : (⟨S_, .f32⟩ : BufTy).Contents (Elt F) → (⟨S_, .f32⟩ : BufTy).Contents (Elt F) → (⟨S_, .f32⟩ : BufTy).Contents (Elt F)),
    unary main_v27 main_v30 (broadcastInDim S8192 ![] bcast_S_S8192 : (⟨S_, .f32⟩ : BufTy).Contents (Elt F) → (⟨S8192, .f32⟩ : BufTy).Contents (Elt F)),
    binary main_v23 main_v30 main_v31 (subf : (⟨S8192, .f32⟩ : BufTy).Contents (Elt F) → (⟨S8192, .f32⟩ : BufTy).Contents (Elt F) → (⟨S8192, .f32⟩ : BufTy).Contents (Elt F)),
    unary main_v29 main_v32 (broadcastInDim S8192 ![] bcast_S_S8192 : (⟨S_, .f32⟩ : BufTy).Contents (Elt F) → (⟨S8192, .f32⟩ : BufTy).Contents (Elt F)),
    binary main_v31 main_v32 main_v33 (Host.divf : (⟨S8192, .f32⟩ : BufTy).Contents (Elt F) → (⟨S8192, .f32⟩ : BufTy).Contents (Elt F) → (⟨S8192, .f32⟩ : BufTy).Contents (Elt F)),
    unary main_v33 main_v34 (Host.floor : (⟨S8192, .f32⟩ : BufTy).Contents (Elt F) → (⟨S8192, .f32⟩ : BufTy).Contents (Elt F)),
    unary main_v34 main_v35 (fptosi 32 : (⟨S8192, .f32⟩ : BufTy).Contents (Elt F) → (⟨S8192, .i32⟩ : BufTy).Contents (Elt F)),
    nullary main_c (constantI S_ 32 1#32),
    unary main_c main_v36 (broadcastInDim S8192 ![] bcast_S_S8192 : (⟨S_, .i32⟩ : BufTy).Contents (Elt F) → (⟨S8192, .i32⟩ : BufTy).Contents (Elt F)),
    binary main_v35 main_v36 main_v37 (addi : (⟨S8192, .i32⟩ : BufTy).Contents (Elt F) → (⟨S8192, .i32⟩ : BufTy).Contents (Elt F) → (⟨S8192, .i32⟩ : BufTy).Contents (Elt F)),
    nullary main_c_11 (constantI S_ 32 0#32),
    nullary main_c_12 (constantI S_ 32 63#32),
    TRef.unary (TRef.of (T := ⟨S_, .i32⟩) main_c_11) (TRef.of (T := ⟨S_, .i32⟩) main_call3_v0) id ]

/-- @main's operations 61 … 71 of 147 (window `main_part0`). -/
abbrev ops_part0_2 : List (HloOp τ sig (Elt F)) :=
  [ TRef.unary (TRef.of (T := ⟨S_, .i32⟩) main_call3_v0) (TRef.of (T := ⟨S8192, .i32⟩) main_call3_v1) (broadcastInDim S8192 ![] bcast_S_S8192),
    TRef.binary (TRef.of (T := ⟨S8192, .i32⟩) main_call3_v1) (TRef.of (T := ⟨S8192, .i32⟩) main_v37) (TRef.of (T := ⟨S8192, .i32⟩) main_call3_v2) maxsi,
    TRef.unary (TRef.of (T := ⟨S_, .i32⟩) main_c_12) (TRef.of (T := ⟨S_, .i32⟩) main_call3_v3) id,
    TRef.unary (TRef.of (T := ⟨S_, .i32⟩) main_call3_v3) (TRef.of (T := ⟨S8192, .i32⟩) main_call3_v4) (broadcastInDim S8192 ![] bcast_S_S8192),
    TRef.binary (TRef.of (T := ⟨S8192, .i32⟩) main_call3_v4) (TRef.of (T := ⟨S8192, .i32⟩) main_call3_v2) (TRef.of (T := ⟨S8192, .i32⟩) main_v38) minsi,
    unary main_v27 main_v39 (broadcastInDim S8192 ![] bcast_S_S8192 : (⟨S_, .f32⟩ : BufTy).Contents (Elt F) → (⟨S8192, .f32⟩ : BufTy).Contents (Elt F)),
    binary main_v23 main_v39 main_v40 (subf : (⟨S8192, .f32⟩ : BufTy).Contents (Elt F) → (⟨S8192, .f32⟩ : BufTy).Contents (Elt F) → (⟨S8192, .f32⟩ : BufTy).Contents (Elt F)),
    unary main_v35 main_v41 (sitofp .f32 : (⟨S8192, .i32⟩ : BufTy).Contents (Elt F) → (⟨S8192, .f32⟩ : BufTy).Contents (Elt F)),
    unary main_v29 main_v42 (broadcastInDim S8192 ![] bcast_S_S8192 : (⟨S_, .f32⟩ : BufTy).Contents (Elt F) → (⟨S8192, .f32⟩ : BufTy).Contents (Elt F)),
    binary main_v41 main_v42 main_v43 (mulf : (⟨S8192, .f32⟩ : BufTy).Contents (Elt F) → (⟨S8192, .f32⟩ : BufTy).Contents (Elt F) → (⟨S8192, .f32⟩ : BufTy).Contents (Elt F)),
    binary main_v40 main_v43 main_v44 (subf : (⟨S8192, .f32⟩ : BufTy).Contents (Elt F) → (⟨S8192, .f32⟩ : BufTy).Contents (Elt F) → (⟨S8192, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 72 … 101 of 147 (window `main_part1`). -/
abbrev ops_part1_0 : List (HloOp τ sig (Elt F)) :=
  [ unary main_v29 main_v45 (broadcastInDim S8192 ![] bcast_S_S8192 : (⟨S_, .f32⟩ : BufTy).Contents (Elt F) → (⟨S8192, .f32⟩ : BufTy).Contents (Elt F)),
    binary main_v44 main_v45 main_v46 (Host.divf : (⟨S8192, .f32⟩ : BufTy).Contents (Elt F) → (⟨S8192, .f32⟩ : BufTy).Contents (Elt F) → (⟨S8192, .f32⟩ : BufTy).Contents (Elt F)),
    nullary main_cst_13 (constant S_ .f32 0x3F800000#32),
    unary main_cst_13 main_v47 (broadcastInDim S8192 ![] bcast_S_S8192 : (⟨S_, .f32⟩ : BufTy).Contents (Elt F) → (⟨S8192, .f32⟩ : BufTy).Contents (Elt F)),
    binary main_v47 main_v46 main_v48 (subf : (⟨S8192, .f32⟩ : BufTy).Contents (Elt F) → (⟨S8192, .f32⟩ : BufTy).Contents (Elt F) → (⟨S8192, .f32⟩ : BufTy).Contents (Elt F)),
    nullary main_cst_14 (constant S_ .f32 0x00000000#32),
    unary main_cst_14 main_v49 (broadcastInDim S64 ![] bcast_S_S64 : (⟨S_, .f32⟩ : BufTy).Contents (Elt F) → (⟨S64, .f32⟩ : BufTy).Contents (Elt F)),
    nullary main_c_15 (constantI S_ 32 0#32),
    unary main_c_15 main_v50 (broadcastInDim S8192 ![] bcast_S_S8192 : (⟨S_, .i32⟩ : BufTy).Contents (Elt F) → (⟨S8192, .i32⟩ : BufTy).Contents (Elt F)),
    binary main_v35 main_v50 main_v51 (cmpi .slt : (⟨S8192, .i32⟩ : BufTy).Contents (Elt F) → (⟨S8192, .i32⟩ : BufTy).Contents (Elt F) → (⟨S8192, .i1⟩ : BufTy).Contents (Elt F)),
    nullary main_c_16 (constantI S_ 32 64#32),
    unary main_c_16 main_v52 (broadcastInDim S8192 ![] bcast_S_S8192 : (⟨S_, .i32⟩ : BufTy).Contents (Elt F) → (⟨S8192, .i32⟩ : BufTy).Contents (Elt F)),
    binary main_v35 main_v52 main_v53 (addi : (⟨S8192, .i32⟩ : BufTy).Contents (Elt F) → (⟨S8192, .i32⟩ : BufTy).Contents (Elt F) → (⟨S8192, .i32⟩ : BufTy).Contents (Elt F)),
    ternary main_v51 main_v53 main_v35 main_v54 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v54 main_v55 (broadcastInDim S8192x1 ![0] bcast_S8192_S8192x1_0 : (⟨S8192, .i32⟩ : BufTy).Contents (Elt F) → (⟨S8192x1, .i32⟩ : BufTy).Contents (Elt F)),
    ternary main_v49 main_v55 main_v48 main_v56 ((fun x i u => Host.scatterAdd scatter_S64_S8192x1_S8192_n_0_0_1 x i u) : (⟨S64, .f32⟩ : BufTy).Contents (Elt F) → (⟨S8192x1, .i32⟩ : BufTy).Contents (Elt F) → (⟨S8192, .f32⟩ : BufTy).Contents (Elt F) → (⟨S64, .f32⟩ : BufTy).Contents (Elt F)),
    nullary main_cst_17 (constant S_ .f32 0x3F800000#32),
    unary main_cst_17 main_v57 (broadcastInDim S8192 ![] bcast_S_S8192 : (⟨S_, .f32⟩ : BufTy).Contents (Elt F) → (⟨S8192, .f32⟩ : BufTy).Contents (Elt F)),
    binary main_v57 main_v48 main_v58 (subf : (⟨S8192, .f32⟩ : BufTy).Contents (Elt F) → (⟨S8192, .f32⟩ : BufTy).Contents (Elt F) → (⟨S8192, .f32⟩ : BufTy).Contents (Elt F)),
    nullary main_c_18 (constantI S_ 32 0#32),
    unary main_c_18 main_v59 (broadcastInDim S8192 ![] bcast_S_S8192 : (⟨S_, .i32⟩ : BufTy).Contents (Elt F) → (⟨S8192, .i32⟩ : BufTy).Contents (Elt F)),
    binary main_v38 main_v59 main_v60 (cmpi .slt : (⟨S8192, .i32⟩ : BufTy).Contents (Elt F) → (⟨S8192, .i32⟩ : BufTy).Contents (Elt F) → (⟨S8192, .i1⟩ : BufTy).Contents (Elt F)),
    nullary main_c_19 (constantI S_ 32 64#32),
    unary main_c_19 main_v61 (broadcastInDim S8192 ![] bcast_S_S8192 : (⟨S_, .i32⟩ : BufTy).Contents (Elt F) → (⟨S8192, .i32⟩ : BufTy).Contents (Elt F)),
    binary main_v38 main_v61 main_v62 (addi : (⟨S8192, .i32⟩ : BufTy).Contents (Elt F) → (⟨S8192, .i32⟩ : BufTy).Contents (Elt F) → (⟨S8192, .i32⟩ : BufTy).Contents (Elt F)),
    ternary main_v60 main_v62 main_v38 main_v63 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v63 main_v64 (broadcastInDim S8192x1 ![0] bcast_S8192_S8192x1_0 : (⟨S8192, .i32⟩ : BufTy).Contents (Elt F) → (⟨S8192x1, .i32⟩ : BufTy).Contents (Elt F)),
    ternary main_v56 main_v64 main_v58 main_v65 ((fun x i u => Host.scatterAdd scatter_S64_S8192x1_S8192_n_0_0_1 x i u) : (⟨S64, .f32⟩ : BufTy).Contents (Elt F) → (⟨S8192x1, .i32⟩ : BufTy).Contents (Elt F) → (⟨S8192, .f32⟩ : BufTy).Contents (Elt F) → (⟨S64, .f32⟩ : BufTy).Contents (Elt F)),
    nullary main_cst_20 (constant S_ .f32 0x00000000#32),
    binary main_v65 main_cst_20 main_v66 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)) ]

/-- @main's operations 102 … 131 of 147 (window `main_part1`). -/
abbrev ops_part1_1 : List (HloOp τ sig (Elt F)) :=
  [ nullary main_cst_21 (constant S_ .f32 0x358637BD#32),
    binary main_v66 main_cst_21 main_v67 (addf : (⟨S_, .f32⟩ : BufTy).Contents (Elt F) → (⟨S_, .f32⟩ : BufTy).Contents (Elt F) → (⟨S_, .f32⟩ : BufTy).Contents (Elt F)),
    unary main_v67 main_v68 (broadcastInDim S64 ![] bcast_S_S64 : (⟨S_, .f32⟩ : BufTy).Contents (Elt F) → (⟨S64, .f32⟩ : BufTy).Contents (Elt F)),
    binary main_v65 main_v68 main_v69 (Host.divf : (⟨S64, .f32⟩ : BufTy).Contents (Elt F) → (⟨S64, .f32⟩ : BufTy).Contents (Elt F) → (⟨S64, .f32⟩ : BufTy).Contents (Elt F)),
    nullary main_cst_22 (constant S_ .f32 0x00000000#32),
    unary main_cst_22 main_v70 (broadcastInDim S64 ![] bcast_S_S64 : (⟨S_, .f32⟩ : BufTy).Contents (Elt F) → (⟨S64, .f32⟩ : BufTy).Contents (Elt F)),
    binary main_v70 main_arg2 main_v71 (mulf : (⟨S64, .f32⟩ : BufTy).Contents (Elt F) → (⟨S64, .f32⟩ : BufTy).Contents (Elt F) → (⟨S64, .f32⟩ : BufTy).Contents (Elt F)),
    nullary main_cst_23 (constant S_ .f32 0x3F800000#32),
    unary main_cst_23 main_v72 (broadcastInDim S64 ![] bcast_S_S64 : (⟨S_, .f32⟩ : BufTy).Contents (Elt F) → (⟨S64, .f32⟩ : BufTy).Contents (Elt F)),
    binary main_v72 main_v69 main_v73 (mulf : (⟨S64, .f32⟩ : BufTy).Contents (Elt F) → (⟨S64, .f32⟩ : BufTy).Contents (Elt F) → (⟨S64, .f32⟩ : BufTy).Contents (Elt F)),
    binary main_v71 main_v73 main_v74 (addf : (⟨S64, .f32⟩ : BufTy).Contents (Elt F) → (⟨S64, .f32⟩ : BufTy).Contents (Elt F) → (⟨S64, .f32⟩ : BufTy).Contents (Elt F)),
    nullary main_cst_24 (constant S_ .f32 0x00000000#32),
    binary main_v74 main_cst_24 main_v75 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v75 main_v76 (broadcastInDim S64 ![] bcast_S_S64 : (⟨S_, .f32⟩ : BufTy).Contents (Elt F) → (⟨S64, .f32⟩ : BufTy).Contents (Elt F)),
    binary main_v74 main_v76 main_v77 (Host.divf : (⟨S64, .f32⟩ : BufTy).Contents (Elt F) → (⟨S64, .f32⟩ : BufTy).Contents (Elt F) → (⟨S64, .f32⟩ : BufTy).Contents (Elt F)),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S64, .f32⟩) main_v77) (TRef.of (T := ⟨S_, .f32⟩) main_call4_call0_v0) (TRef.of (T := ⟨S64, .f32⟩) main_v78) (fun x v => Host.reduceWindowAdd ![64] ![1] ![63] ![0] x v reduceWindows_S64_S64_w64s1p63_0 h_S_),
    unary main_v27 main_v79 (broadcastInDim S8192 ![] bcast_S_S8192 : (⟨S_, .f32⟩ : BufTy).Contents (Elt F) → (⟨S8192, .f32⟩ : BufTy).Contents (Elt F)),
    binary main_v23 main_v79 main_v80 (subf : (⟨S8192, .f32⟩ : BufTy).Contents (Elt F) → (⟨S8192, .f32⟩ : BufTy).Contents (Elt F) → (⟨S8192, .f32⟩ : BufTy).Contents (Elt F)),
    unary main_v29 main_v81 (broadcastInDim S8192 ![] bcast_S_S8192 : (⟨S_, .f32⟩ : BufTy).Contents (Elt F) → (⟨S8192, .f32⟩ : BufTy).Contents (Elt F)),
    binary main_v80 main_v81 main_v82 (Host.divf : (⟨S8192, .f32⟩ : BufTy).Contents (Elt F) → (⟨S8192, .f32⟩ : BufTy).Contents (Elt F) → (⟨S8192, .f32⟩ : BufTy).Contents (Elt F)),
    unary main_v82 main_v83 (Host.floor : (⟨S8192, .f32⟩ : BufTy).Contents (Elt F) → (⟨S8192, .f32⟩ : BufTy).Contents (Elt F)),
    unary main_v83 main_v84 (fptosi 32 : (⟨S8192, .f32⟩ : BufTy).Contents (Elt F) → (⟨S8192, .i32⟩ : BufTy).Contents (Elt F)),
    nullary main_c_25 (constantI S_ 32 0#32),
    unary main_c_25 main_v85 (broadcastInDim S8192 ![] bcast_S_S8192 : (⟨S_, .i32⟩ : BufTy).Contents (Elt F) → (⟨S8192, .i32⟩ : BufTy).Contents (Elt F)),
    binary main_v84 main_v85 main_v86 (cmpi .slt : (⟨S8192, .i32⟩ : BufTy).Contents (Elt F) → (⟨S8192, .i32⟩ : BufTy).Contents (Elt F) → (⟨S8192, .i1⟩ : BufTy).Contents (Elt F)),
    nullary main_c_26 (constantI S_ 32 64#32),
    unary main_c_26 main_v87 (broadcastInDim S8192 ![] bcast_S_S8192 : (⟨S_, .i32⟩ : BufTy).Contents (Elt F) → (⟨S8192, .i32⟩ : BufTy).Contents (Elt F)),
    binary main_v84 main_v87 main_v88 (addi : (⟨S8192, .i32⟩ : BufTy).Contents (Elt F) → (⟨S8192, .i32⟩ : BufTy).Contents (Elt F) → (⟨S8192, .i32⟩ : BufTy).Contents (Elt F)) ]

/-- @main's operations 132 … 133 of 147 (window `main_part1`). -/
abbrev ops_part1_2 : List (HloOp τ sig (Elt F)) :=
  [ ternary main_v86 main_v88 main_v84 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v89 main_v90 (broadcastInDim S8192x1 ![0] bcast_S8192_S8192x1_0 : (⟨S8192, .i32⟩ : BufTy).Contents (Elt F) → (⟨S8192x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 134 … 147 of 147 (window `main_part2`). -/
abbrev ops_part2 : List (HloOp τ sig (Elt F)) :=
  [ binary main_v78 main_v90 main_v91 ((fun x i => Host.gather gather_S64_S8192x1_S8192_n_0_n_n_0_1_1 x i) : (⟨S64, .f32⟩ : BufTy).Contents (Elt F) → (⟨S8192x1, .i32⟩ : BufTy).Contents (Elt F) → (⟨S8192, .f32⟩ : BufTy).Contents (Elt F)),
    binary main_v22 main_v91 main_v92 (mulf : (⟨S8192, .f32⟩ : BufTy).Contents (Elt F) → (⟨S8192, .f32⟩ : BufTy).Contents (Elt F) → (⟨S8192, .f32⟩ : BufTy).Contents (Elt F)),
    nullary main_cst_27 (constant S_ .f32 0x00000000#32),
    binary main_v92 main_cst_27 main_v93 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_28 (constant S_ .f32 0x46000000#32),
    binary main_v93 main_cst_28 main_v94 (Host.divf : (⟨S_, .f32⟩ : BufTy).Contents (Elt F) → (⟨S_, .f32⟩ : BufTy).Contents (Elt F) → (⟨S_, .f32⟩ : BufTy).Contents (Elt F)),
    unary main_v94 main_v95 (Host.negf : (⟨S_, .f32⟩ : BufTy).Contents (Elt F) → (⟨S_, .f32⟩ : BufTy).Contents (Elt F)),
    binary main_v20 main_v91 main_v96 (mulf : (⟨S8192, .f32⟩ : BufTy).Contents (Elt F) → (⟨S8192, .f32⟩ : BufTy).Contents (Elt F) → (⟨S8192, .f32⟩ : BufTy).Contents (Elt F)),
    nullary main_cst_29 (constant S_ .f32 0x00000000#32),
    binary main_v96 main_cst_29 main_v97 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_30 (constant S_ .f32 0x46000000#32),
    binary main_v97 main_cst_30 main_v98 (Host.divf : (⟨S_, .f32⟩ : BufTy).Contents (Elt F) → (⟨S_, .f32⟩ : BufTy).Contents (Elt F) → (⟨S_, .f32⟩ : BufTy).Contents (Elt F)),
    binary main_v95 main_v98 main_v99 (addf : (⟨S_, .f32⟩ : BufTy).Contents (Elt F) → (⟨S_, .f32⟩ : BufTy).Contents (Elt F) → (⟨S_, .f32⟩ : BufTy).Contents (Elt F)),
    reshape main_v99 main_v100 (rfl : (.f32 : EltTy) = .f32) shapeCasts_S_S1x1 ]

/-- @main's 147 operations, in order (a called function's operations stand in its call's place, spelt `TRef.…`). -/
abbrev ops : List (HloOp τ sig (Elt F)) :=
  ops_part0 ++ (ops_part1 ++ (ops_part2))

/-- A call of `clip` on reals is three operations. -/
theorem clip_seq (a : TRef sig ⟨S8192x8192, .f32⟩) (b : TRef sig ⟨S_, .f32⟩) (φ : fn_clip.Bufs) :
    fn_clip.body (F := F) a b φ = seq [TRef.unary b φ.v0 id,
      TRef.unary φ.v0 φ.v1 (broadcastInDim S8192x8192 ![] bcast_S_S8192x8192), TRef.binary φ.v1 a φ.v2 maximumf] := rfl

/-- A call of `where` is three operations. -/
theorem where_seq (a : TRef sig ⟨S8192x8192, .i1⟩) (b : TRef sig ⟨S8192x8192, .f32⟩) (c : TRef sig ⟨S_, .f32⟩)
    (φ : fn_where.Bufs) :
    fn_where.body (F := F) a b c φ = seq [TRef.unary c φ.v0 id,
      TRef.unary φ.v0 φ.v1 (broadcastInDim S8192x8192 ![] bcast_S_S8192x8192), TRef.ternary a b φ.v1 φ.v2 select] := rfl

/-- The same for the other order of its arguments. -/
theorem where0_seq (a : TRef sig ⟨S8192x8192, .i1⟩) (b : TRef sig ⟨S_, .f32⟩) (c : TRef sig ⟨S8192x8192, .f32⟩)
    (φ : fn_where_0.Bufs) :
    fn_where_0.body (F := F) a b c φ = seq [TRef.unary b φ.v0 id,
      TRef.unary φ.v0 φ.v1 (broadcastInDim S8192x8192 ![] bcast_S_S8192x8192), TRef.ternary a φ.v1 c φ.v2 select] := rfl

/-- A call of `clip` on words is six operations. -/
theorem clip1_seq (a : TRef sig ⟨S8192, .i32⟩) (b c : TRef sig ⟨S_, .i32⟩) (φ : fn_clip_1.Bufs) :
    fn_clip_1.body (F := F) a b c φ = seq [TRef.unary b φ.v0 id,
      TRef.unary φ.v0 φ.v1 (broadcastInDim S8192 ![] bcast_S_S8192), TRef.binary φ.v1 a φ.v2 maxsi,
      TRef.unary c φ.v3 id, TRef.unary φ.v3 φ.v4 (broadcastInDim S8192 ![] bcast_S_S8192),
      TRef.binary φ.v4 φ.v2 φ.v5 minsi] := rfl

set_option maxRecDepth 8192 in
set_option maxHeartbeats 4000000 in
theorem main_part0_eq (c : Dev nD) : main_part0 (F := F) c = seq ops_part0 := by
  unfold main_part0
  rw [clip_seq, where_seq, where0_seq, clip1_seq]
  simp only [seq_bind_seqK]
  rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., unary_bufs_sub .., ternary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨ternary_bufs_sub .., unary_bufs_sub ..⟩
set_option maxRecDepth 8192 in
theorem ops_part1_2_fresh : (ops_part1_2 : List (HloOp τ sig (Elt F))).Forall fun op => op.fresh = ∅ :=
  ⟨rfl, rfl⟩
set_option maxRecDepth 8192 in
theorem ops_part2_sub : (ops_part2 : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., binary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v2`'s composed term of the arguments (named: it is used 2 times). -/
def res_main_v2 (V0 : Valuation τ sig (Elt F)) : (Proc.devRef .tc main_v2 : DevRef τ sig).ty.Contents (Elt F) :=
  broadcastInDim S8192x1 ![0] bcast_S8192_S8192x1_0 (Host.reduceAdd (mulf (V0 (Proc.devRef .tc main_arg0)) (V0 (Proc.devRef .tc main_arg0))) (constant S_ .f32 0x00000000#32) reducesTo_S8192x64_S8192_d1 h_S_)

set_option maxRecDepth 8192 in
/-- `main_v13`'s composed term of the arguments (named: it is used 2 times). -/
def res_main_v13 (V0 : Valuation τ sig (Elt F)) : (Proc.devRef .tc main_v13 : DevRef τ sig).ty.Contents (Elt F) :=
  Host.sqrt (maximumf (broadcastInDim S8192x8192 ![] bcast_S_S8192x8192 (id (constant S_ .f32 0x2B8CBCCC#32))) (subf (addf (broadcastInDim S8192x8192 ![0, 1] bcast_S8192x1_S8192x8192_0_1 (res_main_v2 V0)) (broadcastInDim S8192x8192 ![0, 1] bcast_S1x8192_S8192x8192_0_1 (transpose S1x8192 [1, 0] (res_main_v2 V0) transposes_S8192x1_S1x8192_1_0))) (mulf (broadcastInDim S8192x8192 ![] bcast_S_S8192x8192 (constant S_ .f32 0x40000000#32)) (Host.dotGeneral dot_S8192x64_S64x8192_S8192x8192_1_0_0_1_n_n none (V0 (Proc.devRef .tc main_arg0)) (transpose S64x8192 [1, 0] (V0 (Proc.devRef .tc main_arg0)) transposes_S8192x64_S64x8192_1_0)))))

set_option maxRecDepth 8192 in
/-- `main_v18`'s composed term of the arguments (named: it is used 2 times). -/
def res_main_v18 (V0 : Valuation τ sig (Elt F)) : (Proc.devRef .tc main_v18 : DevRef τ sig).ty.Contents (Elt F) :=
  cmpi .eq (broadcastInDim S8192x8192 ![0, 1] bcast_S8192x1_S8192x8192_0_1 (broadcastInDim S8192x1 ![0] bcast_S8192_S8192x1_0 (V0 (Proc.devRef .tc main_arg1)))) (broadcastInDim S8192x8192 ![0, 1] bcast_S1x8192_S8192x8192_0_1 (broadcastInDim S1x8192 ![1] bcast_S8192_S1x8192_1 (V0 (Proc.devRef .tc main_arg1))))

set_option maxRecDepth 8192 in
/-- `main_v20`'s composed term of the arguments (named: it is used 2 times). -/
def res_main_v20 (V0 : Valuation τ sig (Elt F)) : (Proc.devRef .tc main_v20 : DevRef τ sig).ty.Contents (Elt F) :=
  Host.reduce FloatOps.maximumf (select (res_main_v18 V0) (res_main_v13 V0) (broadcastInDim S8192x8192 ![] bcast_S_S8192x8192 (id (constant S_ .f32 0xFF800000#32)))) (constant S_ .f32 0xFF800000#32) reducesTo_S8192x8192_S8192_d1 h_S_

set_option maxRecDepth 8192 in
/-- `main_v22`'s composed term of the arguments (named: it is used 2 times). -/
def res_main_v22 (V0 : Valuation τ sig (Elt F)) : (Proc.devRef .tc main_v22 : DevRef τ sig).ty.Contents (Elt F) :=
  Host.reduce FloatOps.minimumf (select (res_main_v18 V0) (broadcastInDim S8192x8192 ![] bcast_S_S8192x8192 (id (constant S_ .f32 0x7F800000#32))) (res_main_v13 V0)) (constant S_ .f32 0x7F800000#32) reducesTo_S8192x8192_S8192_d1 h_S_

set_option maxRecDepth 8192 in
/-- `main_v23`'s composed term of the arguments (named: it is used 5 times). -/
def res_main_v23 (V0 : Valuation τ sig (Elt F)) : (Proc.devRef .tc main_v23 : DevRef τ sig).ty.Contents (Elt F) :=
  subf (res_main_v20 V0) (res_main_v22 V0)

set_option maxRecDepth 8192 in
/-- `main_v27`'s composed term of the arguments (named: it is used 4 times). -/
def res_main_v27 (V0 : Valuation τ sig (Elt F)) : (Proc.devRef .tc main_v27 : DevRef τ sig).ty.Contents (Elt F) :=
  minimumf (constant S_ .f32 0xC0000000#32) (Host.reduce FloatOps.minimumf (res_main_v23 V0) (constant S_ .f32 0x7F800000#32) reducesTo_S8192_S_d0 h_S_)

set_option maxRecDepth 8192 in
/-- `main_v29`'s composed term of the arguments (named: it is used 4 times). -/
def res_main_v29 (V0 : Valuation τ sig (Elt F)) : (Proc.devRef .tc main_v29 : DevRef τ sig).ty.Contents (Elt F) :=
  Host.divf (subf (maximumf (constant S_ .f32 0x40000000#32) (Host.reduce FloatOps.maximumf (res_main_v23 V0) (constant S_ .f32 0xFF800000#32) reducesTo_S8192_S_d0 h_S_)) (res_main_v27 V0)) (constant S_ .f32 0x427C0000#32)

set_option maxRecDepth 8192 in
/-- `main_v35`'s composed term of the arguments (named: it is used 5 times). -/
def res_main_v35 (V0 : Valuation τ sig (Elt F)) : (Proc.devRef .tc main_v35 : DevRef τ sig).ty.Contents (Elt F) :=
  fptosi 32 (Host.floor (Host.divf (subf (res_main_v23 V0) (broadcastInDim S8192 ![] bcast_S_S8192 (res_main_v27 V0))) (broadcastInDim S8192 ![] bcast_S_S8192 (res_main_v29 V0))))

set_option maxRecDepth 8192 in
/-- `main_v38`'s composed term of the arguments (named: it is used 3 times). -/
def res_main_v38 (V0 : Valuation τ sig (Elt F)) : (Proc.devRef .tc main_v38 : DevRef τ sig).ty.Contents (Elt F) :=
  minsi (broadcastInDim S8192 ![] bcast_S_S8192 (id (constantI S_ 32 63#32))) (maxsi (broadcastInDim S8192 ![] bcast_S_S8192 (id (constantI S_ 32 0#32))) (addi (res_main_v35 V0) (broadcastInDim S8192 ![] bcast_S_S8192 (constantI S_ 32 1#32))))

set_option maxRecDepth 8192 in
/-- `main_v48`'s composed term of the arguments (named: it is used 2 times). -/
def res_main_v48 (V0 : Valuation τ sig (Elt F)) : (Proc.devRef .tc main_v48 : DevRef τ sig).ty.Contents (Elt F) :=
  subf (broadcastInDim S8192 ![] bcast_S_S8192 (constant S_ .f32 0x3F800000#32)) (Host.divf (subf (subf (res_main_v23 V0) (broadcastInDim S8192 ![] bcast_S_S8192 (res_main_v27 V0))) (mulf (sitofp .f32 (res_main_v35 V0)) (broadcastInDim S8192 ![] bcast_S_S8192 (res_main_v29 V0)))) (broadcastInDim S8192 ![] bcast_S_S8192 (res_main_v29 V0)))

set_option maxRecDepth 8192 in
/-- `main_v65`'s composed term of the arguments (named: it is used 2 times). -/
def res_main_v65 (V0 : Valuation τ sig (Elt F)) : (Proc.devRef .tc main_v65 : DevRef τ sig).ty.Contents (Elt F) :=
  Host.scatterAdd scatter_S64_S8192x1_S8192_n_0_0_1 (Host.scatterAdd scatter_S64_S8192x1_S8192_n_0_0_1 (broadcastInDim S64 ![] bcast_S_S64 (constant S_ .f32 0x00000000#32)) (broadcastInDim S8192x1 ![0] bcast_S8192_S8192x1_0 (select (cmpi .slt (res_main_v35 V0) (broadcastInDim S8192 ![] bcast_S_S8192 (constantI S_ 32 0#32))) (addi (res_main_v35 V0) (broadcastInDim S8192 ![] bcast_S_S8192 (constantI S_ 32 64#32))) (res_main_v35 V0))) (res_main_v48 V0)) (broadcastInDim S8192x1 ![0] bcast_S8192_S8192x1_0 (select (cmpi .slt (res_main_v38 V0) (broadcastInDim S8192 ![] bcast_S_S8192 (constantI S_ 32 0#32))) (addi (res_main_v38 V0) (broadcastInDim S8192 ![] bcast_S_S8192 (constantI S_ 32 64#32))) (res_main_v38 V0))) (subf (broadcastInDim S8192 ![] bcast_S_S8192 (constant S_ .f32 0x3F800000#32)) (res_main_v48 V0))

set_option maxRecDepth 8192 in
/-- `main_v74`'s composed term of the arguments (named: it is used 2 times). -/
def res_main_v74 (V0 : Valuation τ sig (Elt F)) : (Proc.devRef .tc main_v74 : DevRef τ sig).ty.Contents (Elt F) :=
  addf (mulf (broadcastInDim S64 ![] bcast_S_S64 (constant S_ .f32 0x00000000#32)) (V0 (Proc.devRef .tc main_arg2))) (mulf (broadcastInDim S64 ![] bcast_S_S64 (constant S_ .f32 0x3F800000#32)) (Host.divf (res_main_v65 V0) (broadcastInDim S64 ![] bcast_S_S64 (addf (Host.reduceAdd (res_main_v65 V0) (constant S_ .f32 0x00000000#32) reducesTo_S64_S_d0 h_S_) (constant S_ .f32 0x358637BD#32)))))

set_option maxRecDepth 8192 in
/-- `main_v84`'s composed term of the arguments (named: it is used 3 times). -/
def res_main_v84 (V0 : Valuation τ sig (Elt F)) : (Proc.devRef .tc main_v84 : DevRef τ sig).ty.Contents (Elt F) :=
  fptosi 32 (Host.floor (Host.divf (subf (res_main_v23 V0) (broadcastInDim S8192 ![] bcast_S_S8192 (res_main_v27 V0))) (broadcastInDim S8192 ![] bcast_S_S8192 (res_main_v29 V0))))

set_option maxRecDepth 8192 in
/-- `main_v91`'s composed term of the arguments (named: it is used 2 times). -/
def res_main_v91 (V0 : Valuation τ sig (Elt F)) : (Proc.devRef .tc main_v91 : DevRef τ sig).ty.Contents (Elt F) :=
  Host.gather gather_S64_S8192x1_S8192_n_0_n_n_0_1_1 (Host.reduceWindowAdd ![64] ![1] ![63] ![0] (Host.divf (res_main_v74 V0) (broadcastInDim S64 ![] bcast_S_S64 (Host.reduceAdd (res_main_v74 V0) (constant S_ .f32 0x00000000#32) reducesTo_S64_S_d0 h_S_))) (broadcastInDim S_ ![] bcast_S_S_ (constant S_ .f32 0x00000000#32)) reduceWindows_S64_S64_w64s1p63_0 h_S_) (broadcastInDim S8192x1 ![0] bcast_S8192_S8192x1_0 (select (cmpi .slt (res_main_v84 V0) (broadcastInDim S8192 ![] bcast_S_S8192 (constantI S_ 32 0#32))) (addi (res_main_v84 V0) (broadcastInDim S8192 ![] bcast_S_S8192 (constantI S_ 32 64#32))) (res_main_v84 V0)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_v4, main_v5, main_v6, main_v7, main_v8, main_cst_0, main_v9, main_v10, main_v11, main_cst_1, main_call0_v0, main_call0_v1, main_v12, main_v13, main_v14, main_v15, main_v16, main_v17, main_v18, main_cst_2, main_call1_v0, main_call1_v1, main_v19, main_cst_3, main_v20]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0, TRef.binary, TRef.ternary, TRef.unary, TRef.toBuf, TRef.ofBuf, cast_eq]
  after_results_simp
  simp only [val0_main_arg0] <;> rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.binary, TRef.ternary, TRef.unary, TRef.toBuf, TRef.ofBuf, cast_eq]
  after_results_simp
  simp only [val0_main_arg1] <;> rfl
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0, TRef.binary, TRef.ternary, TRef.unary, TRef.toBuf, TRef.ofBuf, cast_eq]
  after_results_simp
  simp only [val0_main_arg0, val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_cst_4, main_call2_v0, main_call2_v1, main_v21, main_cst_5, main_v22, main_v23, main_cst_6, main_v24, main_cst_7, main_v25, main_cst_8, main_v26, main_cst_9, main_v27, main_v28, main_cst_10, main_v29, main_v30, main_v31, main_v32, main_v33, main_v34, main_v35, main_c, main_v36, main_v37, main_c_11, main_c_12, main_call3_v0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v20 (V0 : Valuation τ sig (Elt F)) : val0_2 V0 (no_index (Proc.devRef .tc main_v20)) = res_main_v20 V0 :=
  (val0_2_keep V0 main_v20 (by decide)).trans (val0_1_main_v20 V0)
set_option maxRecDepth 8192 in
set_option maxHeartbeats 2000000 in
theorem val0_2_main_v22 (V0 : Valuation τ sig (Elt F)) : val0_2 V0 (no_index (Proc.devRef .tc main_v22)) = res_main_v22 V0 := by
  unfold val0_2
  simp only [ops_part0_1, TRef.ternary, TRef.unary, TRef.toBuf, TRef.ofBuf, cast_eq]
  after_results_simp
  simp only [val0_1_main_v13, val0_1_main_v18] <;> rfl
set_option maxRecDepth 8192 in
set_option maxHeartbeats 2000000 in
theorem val0_2_main_v23 (V0 : Valuation τ sig (Elt F)) : val0_2 V0 (no_index (Proc.devRef .tc main_v23)) = res_main_v23 V0 := by
  unfold val0_2
  simp only [ops_part0_1, TRef.ternary, TRef.unary, TRef.toBuf, TRef.ofBuf, cast_eq]
  after_results_simp
  simp only [val0_1_main_v13, val0_1_main_v18, val0_1_main_v20] <;> rfl
set_option maxRecDepth 8192 in
set_option maxHeartbeats 2000000 in
theorem val0_2_main_v27 (V0 : Valuation τ sig (Elt F)) : val0_2 V0 (no_index (Proc.devRef .tc main_v27)) = res_main_v27 V0 := by
  unfold val0_2
  simp only [ops_part0_1, TRef.ternary, TRef.unary, TRef.toBuf, TRef.ofBuf, cast_eq]
  after_results_simp
  simp only [val0_1_main_v13, val0_1_main_v18, val0_1_main_v20] <;> rfl
set_option maxRecDepth 8192 in
set_option maxHeartbeats 2000000 in
theorem val0_2_main_v29 (V0 : Valuation τ sig (Elt F)) : val0_2 V0 (no_index (Proc.devRef .tc main_v29)) = res_main_v29 V0 := by
  unfold val0_2
  simp only [ops_part0_1, TRef.ternary, TRef.unary, TRef.toBuf, TRef.ofBuf, cast_eq]
  after_results_simp
  simp only [val0_1_main_v13, val0_1_main_v18, val0_1_main_v20] <;> rfl
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.ternary, TRef.unary, TRef.toBuf, TRef.ofBuf, cast_eq]
  after_results_simp
  simp only [val0_1_main_v13, val0_1_main_v18, val0_1_main_v20] <;> rfl
set_option maxRecDepth 8192 in
set_option maxHeartbeats 2000000 in
theorem val0_2_main_v37 (V0 : Valuation τ sig (Elt F)) : val0_2 V0 (no_index (Proc.devRef .tc main_v37)) = addi (res_main_v35 V0) (broadcastInDim S8192 ![] bcast_S_S8192 (constantI S_ 32 1#32)) := by
  unfold val0_2
  simp only [ops_part0_1, TRef.ternary, TRef.unary, TRef.toBuf, TRef.ofBuf, cast_eq]
  after_results_simp
  simp only [val0_1_main_v13, val0_1_main_v18, val0_1_main_v20] <;> rfl
set_option maxRecDepth 8192 in
set_option maxHeartbeats 2000000 in
theorem val0_2_main_c_12 (V0 : Valuation τ sig (Elt F)) : val0_2 V0 (no_index (Proc.devRef .tc main_c_12)) = constantI S_ 32 63#32 := by
  unfold val0_2
  simp only [ops_part0_1, TRef.ternary, TRef.unary, TRef.toBuf, TRef.ofBuf, cast_eq]
  after_results_simp
  all_goals rfl
set_option maxRecDepth 8192 in
set_option maxHeartbeats 2000000 in
theorem val0_2_main_call3_v0 (V0 : Valuation τ sig (Elt F)) : val0_2 V0 (no_index (Proc.devRef .tc main_call3_v0)) = id (constantI S_ 32 0#32) := by
  unfold val0_2
  simp only [ops_part0_1, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call3_v1, main_call3_v2, main_call3_v3, main_call3_v4, main_v38, main_v39, main_v40, main_v41, main_v42, main_v43, main_v44]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v20 (V0 : Valuation τ sig (Elt F)) : val1 V0 (no_index (Proc.devRef .tc main_v20)) = res_main_v20 V0 :=
  (val1_keep V0 main_v20 (by decide)).trans (val0_2_main_v20 V0)
theorem val1_main_v22 (V0 : Valuation τ sig (Elt F)) : val1 V0 (no_index (Proc.devRef .tc main_v22)) = res_main_v22 V0 :=
  (val1_keep V0 main_v22 (by decide)).trans (val0_2_main_v22 V0)
theorem val1_main_v23 (V0 : Valuation τ sig (Elt F)) : val1 V0 (no_index (Proc.devRef .tc main_v23)) = res_main_v23 V0 :=
  (val1_keep V0 main_v23 (by decide)).trans (val0_2_main_v23 V0)
theorem val1_main_v27 (V0 : Valuation τ sig (Elt F)) : val1 V0 (no_index (Proc.devRef .tc main_v27)) = res_main_v27 V0 :=
  (val1_keep V0 main_v27 (by decide)).trans (val0_2_main_v27 V0)
theorem val1_main_v29 (V0 : Valuation τ sig (Elt F)) : val1 V0 (no_index (Proc.devRef .tc main_v29)) = res_main_v29 V0 :=
  (val1_keep V0 main_v29 (by decide)).trans (val0_2_main_v29 V0)
theorem val1_main_v35 (V0 : Valuation τ sig (Elt F)) : val1 V0 (no_index (Proc.devRef .tc main_v35)) = res_main_v35 V0 :=
  (val1_keep V0 main_v35 (by decide)).trans (val0_2_main_v35 V0)
set_option maxRecDepth 8192 in
set_option maxHeartbeats 1100000 in
theorem val1_main_v38 (V0 : Valuation τ sig (Elt F)) : val1 V0 (no_index (Proc.devRef .tc main_v38)) = res_main_v38 V0 := by
  unfold val1
  simp only [ops_part0_2, TRef.binary, TRef.unary, TRef.toBuf, TRef.ofBuf, cast_eq]
  after_results_simp
  simp only [val0_2_main_v37, val0_2_main_call3_v0, val0_2_main_c_12] <;> rfl
set_option maxRecDepth 8192 in
set_option maxHeartbeats 1100000 in
theorem val1_main_v44 (V0 : Valuation τ sig (Elt F)) : val1 V0 (no_index (Proc.devRef .tc main_v44)) = subf (subf (res_main_v23 V0) (broadcastInDim S8192 ![] bcast_S_S8192 (res_main_v27 V0))) (mulf (sitofp .f32 (res_main_v35 V0)) (broadcastInDim S8192 ![] bcast_S_S8192 (res_main_v29 V0))) := by
  unfold val1
  simp only [ops_part0_2, TRef.binary, TRef.unary, TRef.toBuf, TRef.ofBuf, cast_eq]
  after_results_simp
  simp only [val0_2_main_v29, val0_2_main_v35, val0_2_main_v27, val0_2_main_v23] <;> rfl

/-- The device's buffer contents after @main's first 101 operations. -/
def val1_1 (V0 : Valuation τ sig (Elt F)) : Valuation τ sig (Elt F) := after ops_part1_0 (val1 V0)
/-- The buffers that window `ops_part1_0`'s operations write. -/
abbrev ops_part1_0_W : List (Ref sig .tc) := [main_v45, main_v46, main_cst_13, main_v47, main_v48, main_cst_14, main_v49, main_c_15, main_v50, main_v51, main_c_16, main_v52, main_v53, main_v54, main_v55, main_v56, main_cst_17, main_v57, main_v58, main_c_18, main_v59, main_v60, main_c_19, main_v61, main_v62, main_v63, main_v64, main_v65, main_cst_20, main_v66]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v20 (V0 : Valuation τ sig (Elt F)) : val1_1 V0 (no_index (Proc.devRef .tc main_v20)) = res_main_v20 V0 :=
  (val1_1_keep V0 main_v20 (by decide)).trans (val1_main_v20 V0)
theorem val1_1_main_v22 (V0 : Valuation τ sig (Elt F)) : val1_1 V0 (no_index (Proc.devRef .tc main_v22)) = res_main_v22 V0 :=
  (val1_1_keep V0 main_v22 (by decide)).trans (val1_main_v22 V0)
theorem val1_1_main_v23 (V0 : Valuation τ sig (Elt F)) : val1_1 V0 (no_index (Proc.devRef .tc main_v23)) = res_main_v23 V0 :=
  (val1_1_keep V0 main_v23 (by decide)).trans (val1_main_v23 V0)
theorem val1_1_main_v27 (V0 : Valuation τ sig (Elt F)) : val1_1 V0 (no_index (Proc.devRef .tc main_v27)) = res_main_v27 V0 :=
  (val1_1_keep V0 main_v27 (by decide)).trans (val1_main_v27 V0)
theorem val1_1_main_v29 (V0 : Valuation τ sig (Elt F)) : val1_1 V0 (no_index (Proc.devRef .tc main_v29)) = res_main_v29 V0 :=
  (val1_1_keep V0 main_v29 (by decide)).trans (val1_main_v29 V0)
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0]
  after_results_simp
  simp only [val1_main_v29, val1_main_v44, val1_main_v38, val1_main_v35] <;> rfl
set_option maxRecDepth 8192 in
set_option maxHeartbeats 2000000 in
theorem val1_1_main_v66 (V0 : Valuation τ sig (Elt F)) : val1_1 V0 (no_index (Proc.devRef .tc main_v66)) = Host.reduceAdd (res_main_v65 V0) (constant S_ .f32 0x00000000#32) reducesTo_S64_S_d0 h_S_ := by
  unfold val1_1
  simp only [ops_part1_0]
  after_results_simp
  simp only [val1_main_v29, val1_main_v44, val1_main_v38, val1_main_v35] <;> rfl

/-- The device's buffer contents after @main's first 131 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_21, main_v67, main_v68, main_v69, main_cst_22, main_v70, main_v71, main_cst_23, main_v72, main_v73, main_v74, main_cst_24, main_v75, main_v76, main_v77, main_call4_call0_cst, main_call4_call0_v0, main_v78, main_v79, main_v80, main_v81, main_v82, main_v83, main_v84, main_c_25, main_v85, main_v86, main_c_26, main_v87, main_v88]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v20 (V0 : Valuation τ sig (Elt F)) : val1_2 V0 (no_index (Proc.devRef .tc main_v20)) = res_main_v20 V0 :=
  (val1_2_keep V0 main_v20 (by decide)).trans (val1_1_main_v20 V0)
theorem val1_2_main_v22 (V0 : Valuation τ sig (Elt F)) : val1_2 V0 (no_index (Proc.devRef .tc main_v22)) = res_main_v22 V0 :=
  (val1_2_keep V0 main_v22 (by decide)).trans (val1_1_main_v22 V0)
set_option maxRecDepth 8192 in
set_option maxHeartbeats 2000000 in
theorem val1_2_main_v78 (V0 : Valuation τ sig (Elt F)) : val1_2 V0 (no_index (Proc.devRef .tc main_v78)) = Host.reduceWindowAdd ![64] ![1] ![63] ![0] (Host.divf (res_main_v74 V0) (broadcastInDim S64 ![] bcast_S_S64 (Host.reduceAdd (res_main_v74 V0) (constant S_ .f32 0x00000000#32) reducesTo_S64_S_d0 h_S_))) (broadcastInDim S_ ![] bcast_S_S_ (constant S_ .f32 0x00000000#32)) reduceWindows_S64_S64_w64s1p63_0 h_S_ := by
  unfold val1_2
  simp only [ops_part1_1, TRef.binary, TRef.nullary, TRef.unary, TRef.toBuf, TRef.ofBuf, cast_eq]
  after_results_simp
  simp only [val1_1_main_v66, val1_1_main_v65, val1_1_main_arg2] <;> rfl
set_option maxRecDepth 8192 in
set_option maxHeartbeats 2000000 in
theorem val1_2_main_v84 (V0 : Valuation τ sig (Elt F)) : val1_2 V0 (no_index (Proc.devRef .tc main_v84)) = res_main_v84 V0 := by
  unfold val1_2
  simp only [ops_part1_1, TRef.binary, TRef.nullary, TRef.unary, TRef.toBuf, TRef.ofBuf, cast_eq]
  after_results_simp
  simp only [val1_1_main_v29, val1_1_main_v27, val1_1_main_v23] <;> rfl
set_option maxRecDepth 8192 in
set_option maxHeartbeats 2000000 in
theorem val1_2_main_v86 (V0 : Valuation τ sig (Elt F)) : val1_2 V0 (no_index (Proc.devRef .tc main_v86)) = cmpi .slt (res_main_v84 V0) (broadcastInDim S8192 ![] bcast_S_S8192 (constantI S_ 32 0#32)) := by
  unfold val1_2
  simp only [ops_part1_1, TRef.binary, TRef.nullary, TRef.unary, TRef.toBuf, TRef.ofBuf, cast_eq]
  after_results_simp
  simp only [val1_1_main_v29, val1_1_main_v27, val1_1_main_v23] <;> rfl
set_option maxRecDepth 8192 in
set_option maxHeartbeats 2000000 in
theorem val1_2_main_v88 (V0 : Valuation τ sig (Elt F)) : val1_2 V0 (no_index (Proc.devRef .tc main_v88)) = addi (res_main_v84 V0) (broadcastInDim S8192 ![] bcast_S_S8192 (constantI S_ 32 64#32)) := by
  unfold val1_2
  simp only [ops_part1_1, TRef.binary, TRef.nullary, TRef.unary, TRef.toBuf, TRef.ofBuf, cast_eq]
  after_results_simp
  simp only [val1_1_main_v29, val1_1_main_v27, val1_1_main_v23] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v89, main_v90]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v20 (V0 : Valuation τ sig (Elt F)) : val2 V0 (no_index (Proc.devRef .tc main_v20)) = res_main_v20 V0 :=
  (val2_keep V0 main_v20 (by decide)).trans (val1_2_main_v20 V0)
theorem val2_main_v22 (V0 : Valuation τ sig (Elt F)) : val2 V0 (no_index (Proc.devRef .tc main_v22)) = res_main_v22 V0 :=
  (val2_keep V0 main_v22 (by decide)).trans (val1_2_main_v22 V0)
theorem val2_main_v78 (V0 : Valuation τ sig (Elt F)) : val2 V0 (no_index (Proc.devRef .tc main_v78)) = Host.reduceWindowAdd ![64] ![1] ![63] ![0] (Host.divf (res_main_v74 V0) (broadcastInDim S64 ![] bcast_S_S64 (Host.reduceAdd (res_main_v74 V0) (constant S_ .f32 0x00000000#32) reducesTo_S64_S_d0 h_S_))) (broadcastInDim S_ ![] bcast_S_S_ (constant S_ .f32 0x00000000#32)) reduceWindows_S64_S64_w64s1p63_0 h_S_ :=
  (val2_keep V0 main_v78 (by decide)).trans (val1_2_main_v78 V0)
set_option maxRecDepth 8192 in
theorem val2_main_v90 (V0 : Valuation τ sig (Elt F)) : val2 V0 (no_index (Proc.devRef .tc main_v90)) = broadcastInDim S8192x1 ![0] bcast_S8192_S8192x1_0 (select (cmpi .slt (res_main_v84 V0) (broadcastInDim S8192 ![] bcast_S_S8192 (constantI S_ 32 0#32))) (addi (res_main_v84 V0) (broadcastInDim S8192 ![] bcast_S_S8192 (constantI S_ 32 64#32))) (res_main_v84 V0)) := by
  unfold val2
  simp only [ops_part1_2]
  after_results_simp
  simp only [val1_2_main_v84, val1_2_main_v88, val1_2_main_v86] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v91, main_v92, main_cst_27, main_v93, main_cst_28, main_v94, main_v95, main_v96, main_cst_29, main_v97, main_cst_30, main_v98, main_v99, main_v100]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
set_option maxRecDepth 8192 in
set_option maxHeartbeats 1400000 in
theorem val3_main_v100 (V0 : Valuation τ sig (Elt F)) : val3 V0 (no_index (Proc.devRef .tc main_v100)) = shapeCast _ (addf (Host.negf (Host.divf (Host.reduceAdd (mulf (res_main_v22 V0) (res_main_v91 V0)) (constant S_ .f32 0x00000000#32) reducesTo_S8192_S_d0 h_S_) (constant S_ .f32 0x46000000#32))) (Host.divf (Host.reduceAdd (mulf (res_main_v20 V0) (res_main_v91 V0)) (constant S_ .f32 0x00000000#32) reducesTo_S8192_S_d0 h_S_) (constant S_ .f32 0x46000000#32))) shapeCasts_S_S1x1 := by
  unfold val3
  simp only [ops_part2]
  after_results_simp
  simp only [val2_main_v90, val2_main_v78, val2_main_v20, val2_main_v22] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = shapeCast _ (addf (Host.negf (Host.divf (Host.reduceAdd (mulf (res_main_v22 (launchContents m c)) (res_main_v91 (launchContents m c))) (constant S_ .f32 0x00000000#32) reducesTo_S8192_S_d0 h_S_) (constant S_ .f32 0x46000000#32))) (Host.divf (Host.reduceAdd (mulf (res_main_v20 (launchContents m c)) (res_main_v91 (launchContents m c))) (constant S_ .f32 0x00000000#32) reducesTo_S8192_S_d0 h_S_) (constant S_ .f32 0x46000000#32))) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v100).trans ((congrFun (after_ops (launchContents m c)) (Proc.devRef .tc main_v100)).trans (val3_main_v100 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Line

end
-- ==== Proof.RefRow.lean ====
module

public import proofs.«01_k».proof.Proof.Consts
public import proofs.«01_k».proof.Proof.KerRow
public import proofs.«01_k».proof.Proof.RefRun
public import Idealize.ShloMosaic.Lib.Pointwise

/-!
# The operations of the reference on the rows

Each array of the reference up to the two extremes of a row, as an operation on arrays, read at an index.
-/

@[expose] public section

set_option maxRecDepth 16384

noncomputable section

namespace Cert.ReferenceIdeal.Line

open Cert.ReferenceIdeal Cert.ReferenceIdeal.Gen Cert.Hist
open Idealize.ShloMosaic Idealize.ShloMosaic.StableHlo
open Cert.KernelIdeal.RunV (fold_max_iSup fold_min_iInf select_eq_if)

/-- A matrix as a function of its two coordinates. -/
def mat (x : FVec Ideal S8192x64 .f32) (i : Fin 8192) (k : Fin 64) : EReal := x (ix2 i k)

/-- A vector of words as a function of its coordinate. -/
def words (t : IVec S8192 32) (i : Fin 8192) : BitVec 32 := t (ix1 i)

/-- The largest entry of a row. -/
theorem host_max_row (w : FVec Ideal S8192x8192 .f32) (i : Fin 8192) :
    Host.reduce FloatOps.maximumf w (constant S_ .f32 0xFF800000#32) reducesTo_S8192x8192_S8192_d1 h_S_ (ix1 i)
      = ⨆ j, w (ix2 i j) := by
  pointwise
  rw [lit_bot]; exact fold_max_iSup _

/-- The smallest entry of a row. -/
theorem host_min_row (w : FVec Ideal S8192x8192 .f32) (i : Fin 8192) :
    Host.reduce FloatOps.minimumf w (constant S_ .f32 0x7F800000#32) reducesTo_S8192x8192_S8192_d1 h_S_ (ix1 i)
      = ⨅ j, w (ix2 i j) := by
  pointwise
  rw [lit_top]; exact fold_min_iInf _

/-- The largest entry of a vector. -/
theorem host_max (w : FVec Ideal S8192 .f32) :
    Host.reduce FloatOps.maximumf w (constant S_ .f32 0xFF800000#32) reducesTo_S8192_S_d0 h_S_ ix0
      = ⨆ j, w (ix1 j) := by
  pointwise
  rw [lit_bot]; exact fold_max_iSup _

/-- The smallest entry of a vector. -/
theorem host_min (w : FVec Ideal S8192 .f32) :
    Host.reduce FloatOps.minimumf w (constant S_ .f32 0x7F800000#32) reducesTo_S8192_S_d0 h_S_ ix0
      = ⨅ j, w (ix1 j) := by
  pointwise
  rw [lit_top]; exact fold_min_iInf _

/-- A number kept as an array without axes. -/
theorem id_const (b : BitVec 32) : (id (constant (F := Ideal) S_ .f32 b)) ix0 = Ideal.ofBits .f32 b := rfl

/-- The squared lengths of the rows, as a column. -/
def sqV (x : FVec Ideal S8192x64 .f32) : FVec Ideal S8192x1 .f32 :=
  broadcastInDim S8192x1 ![0] bcast_S8192_S8192x1_0 (Host.reduceAdd (mulf x x) (constant S_ .f32 0x00000000#32) reducesTo_S8192x64_S8192_d1 h_S_)

/-- The distances of the rows. -/
def distV (x : FVec Ideal S8192x64 .f32) : FVec Ideal S8192x8192 .f32 :=
  Host.sqrt (maximumf (broadcastInDim S8192x8192 ![] bcast_S_S8192x8192 (id (constant S_ .f32 0x2B8CBCCC#32))) (subf (addf (broadcastInDim S8192x8192 ![0, 1] bcast_S8192x1_S8192x8192_0_1 (sqV x)) (broadcastInDim S8192x8192 ![0, 1] bcast_S1x8192_S8192x8192_0_1 (transpose S1x8192 [1, 0] (sqV x) transposes_S8192x1_S1x8192_1_0))) (mulf (broadcastInDim S8192x8192 ![] bcast_S_S8192x8192 (constant S_ .f32 0x40000000#32)) (Host.dotGeneral dot_S8192x64_S64x8192_S8192x8192_1_0_0_1_n_n none x (transpose S64x8192 [1, 0] x transposes_S8192x64_S64x8192_1_0)))))

theorem distV_at (x : FVec Ideal S8192x64 .f32) (i j : Fin 8192) : distV x (ix2 i j) = Hist.dist (mat x) i j := by
  pointwise [distV, sqV]
  rw [id_const, lit_two]
  simp only [Hist.dist, mat, Hist.sq, Hist.eps]

/-- Which rows have the same label. -/
def sameV (t : IVec S8192 32) : IVec S8192x8192 1 :=
  cmpi .eq (broadcastInDim S8192x8192 ![0, 1] bcast_S8192x1_S8192x8192_0_1 (broadcastInDim S8192x1 ![0] bcast_S8192_S8192x1_0 t)) (broadcastInDim S8192x8192 ![0, 1] bcast_S1x8192_S8192x8192_0_1 (broadcastInDim S1x8192 ![1] bcast_S8192_S1x8192_1 t))

theorem sameV_at (t : IVec S8192 32) (i j : Fin 8192) :
    sameV t (ix2 i j) = IntOp.cmpi .eq (t (ix1 i)) (t (ix1 j)) := by
  pointwise [sameV]

/-- A choice between an array and one number. -/
theorem pick_left (c : IVec S8192x8192 1) (w : FVec Ideal S8192x8192 .f32) (b : BitVec 32) (i j : Fin 8192) :
    select c w (broadcastInDim S8192x8192 ![] bcast_S_S8192x8192 (id (constant S_ .f32 b))) (ix2 i j)
      = Scalar.select (c (ix2 i j)) (w (ix2 i j)) (Ideal.ofBits .f32 b) := by
  pointwise
  rw [id_const]

/-- A choice between one number and an array. -/
theorem pick_right (c : IVec S8192x8192 1) (w : FVec Ideal S8192x8192 .f32) (b : BitVec 32) (i j : Fin 8192) :
    select c (broadcastInDim S8192x8192 ![] bcast_S_S8192x8192 (id (constant S_ .f32 b))) w (ix2 i j)
      = Scalar.select (c (ix2 i j)) (Ideal.ofBits .f32 b) (w (ix2 i j)) := by
  pointwise
  rw [id_const]

/-- The largest distances to rows of the same label. -/
def posV (c : IVec S8192x8192 1) (d : FVec Ideal S8192x8192 .f32) : FVec Ideal S8192 .f32 :=
  Host.reduce FloatOps.maximumf (select c d (broadcastInDim S8192x8192 ![] bcast_S_S8192x8192 (id (constant S_ .f32 0xFF800000#32)))) (constant S_ .f32 0xFF800000#32) reducesTo_S8192x8192_S8192_d1 h_S_

/-- The smallest distances to rows of another label. -/
def negV (c : IVec S8192x8192 1) (d : FVec Ideal S8192x8192 .f32) : FVec Ideal S8192 .f32 :=
  Host.reduce FloatOps.minimumf (select c (broadcastInDim S8192x8192 ![] bcast_S_S8192x8192 (id (constant S_ .f32 0x7F800000#32))) d) (constant S_ .f32 0x7F800000#32) reducesTo_S8192x8192_S8192_d1 h_S_

theorem posV_at (x : FVec Ideal S8192x64 .f32) (t : IVec S8192 32) (i : Fin 8192) :
    posV (sameV t) (distV x) (ix1 i) = posR (mat x) (words t) i := by
  unfold posV posR
  rw [host_max_row]
  refine iSup_congr fun j => ?_
  rw [pick_left, sameV_at, distV_at, select_eq_if, lit_bot]
  rfl

theorem negV_at (x : FVec Ideal S8192x64 .f32) (t : IVec S8192 32) (i : Fin 8192) :
    negV (sameV t) (distV x) (ix1 i) = negR (mat x) (words t) i := by
  unfold negV negR
  rw [host_min_row]
  refine iInf_congr fun j => ?_
  rw [pick_right, sameV_at, distV_at, select_eq_if, lit_top]
  rfl

end Cert.ReferenceIdeal.Line
end
-- ==== Proof.RefBin.lean ====
module

public import proofs.«01_k».proof.Proof.Consts
public import proofs.«01_k».proof.Proof.RefRow
public import Idealize.ShloMosaic.Lib.Pointwise

/-!
# The operations of the reference on the bins

Each array of the reference from the differences of the rows to their shares, read at an index.
-/

@[expose] public section

set_option maxRecDepth 16384

noncomputable section

namespace Cert.ReferenceIdeal.Line

open Cert.ReferenceIdeal Cert.ReferenceIdeal.Gen Cert.Hist
open Idealize.ShloMosaic Idealize.ShloMosaic.StableHlo

/-- A vector as a function of its coordinate. -/
def nums (v : FVec Ideal S8192 .f32) (i : Fin 8192) : EReal := v (ix1 i)

/-- The lower end of the histogram. -/
def lowV (h : FVec Ideal S8192 .f32) : FVec Ideal S_ .f32 :=
  minimumf (constant S_ .f32 0xC0000000#32) (Host.reduce FloatOps.minimumf h (constant S_ .f32 0x7F800000#32) reducesTo_S8192_S_d0 h_S_)

theorem min_const (b : BitVec 32) (w : FVec Ideal S_ .f32) :
    minimumf (constant S_ .f32 b) w ix0 = min (Ideal.ofBits .f32 b) (w ix0) := by
  pointwise

theorem max_const (b : BitVec 32) (w : FVec Ideal S_ .f32) :
    maximumf (constant S_ .f32 b) w ix0 = max (Ideal.ofBits .f32 b) (w ix0) := by
  pointwise

theorem lowV_at (h : FVec Ideal S8192 .f32) : lowV h ix0 = lowest (nums h) := by
  unfold lowV lowest
  rw [min_const, host_min, lit_neg_two]
  rfl

/-- The width of a bin. -/
def widthV (h : FVec Ideal S8192 .f32) (l : FVec Ideal S_ .f32) : FVec Ideal S_ .f32 :=
  Host.divf (subf (maximumf (constant S_ .f32 0x40000000#32) (Host.reduce FloatOps.maximumf h (constant S_ .f32 0xFF800000#32) reducesTo_S8192_S_d0 h_S_)) l) (constant S_ .f32 0x427C0000#32)

theorem div_sub_const (a l : FVec Ideal S_ .f32) (b : BitVec 32) :
    Host.divf (subf a l) (constant S_ .f32 b) ix0 = Ideal.div (a ix0 - l ix0) (Ideal.ofBits .f32 b) := by
  pointwise

theorem widthV_at (h : FVec Ideal S8192 .f32) : widthV h (lowV h) ix0 = width (nums h) := by
  unfold widthV width
  rw [div_sub_const, max_const, host_max, lit_two, lit_63, lowV_at]
  rfl

/-- The lower bins. -/
def binV (h : FVec Ideal S8192 .f32) (l w : FVec Ideal S_ .f32) : IVec S8192 32 :=
  fptosi 32 (Host.floor (Host.divf (subf h (broadcastInDim S8192 ![] bcast_S_S8192 l)) (broadcastInDim S8192 ![] bcast_S_S8192 w)))

theorem binV_gen (h : FVec Ideal S8192 .f32) (l w : FVec Ideal S_ .f32) (i : Fin 8192) :
    binV h l w (ix1 i) = Ideal.fptosi 32 (Ideal.liftRound Int.floor (Ideal.div (h (ix1 i) - l ix0) (w ix0))) := by
  pointwise [binV]
  rfl

theorem binV_at (h : FVec Ideal S8192 .f32) (i : Fin 8192) :
    binV h (lowV h) (widthV h (lowV h)) (ix1 i) = bin (nums h) i := by
  rw [binV_gen, widthV_at, lowV_at]
  rfl

/-- The upper bins. -/
def upperV (b : IVec S8192 32) : IVec S8192 32 :=
  minsi (broadcastInDim S8192 ![] bcast_S_S8192 (id (constantI S_ 32 63#32))) (maxsi (broadcastInDim S8192 ![] bcast_S_S8192 (id (constantI S_ 32 0#32))) (addi b (broadcastInDim S8192 ![] bcast_S_S8192 (constantI S_ 32 1#32))))

theorem upperV_at (b : IVec S8192 32) (i : Fin 8192) :
    upperV b (ix1 i) = IntOp.minsi 63#32 (IntOp.maxsi 0#32 (b (ix1 i) + 1#32)) := by
  pointwise [upperV]
  rfl

/-- The shares of the lower bins. -/
def shareV (h : FVec Ideal S8192 .f32) (l w : FVec Ideal S_ .f32) (b : IVec S8192 32) : FVec Ideal S8192 .f32 :=
  subf (broadcastInDim S8192 ![] bcast_S_S8192 (constant S_ .f32 0x3F800000#32)) (Host.divf (subf (subf h (broadcastInDim S8192 ![] bcast_S_S8192 l)) (mulf (sitofp .f32 b) (broadcastInDim S8192 ![] bcast_S_S8192 w))) (broadcastInDim S8192 ![] bcast_S_S8192 w))

theorem shareV_gen (h : FVec Ideal S8192 .f32) (l w : FVec Ideal S_ .f32) (b : IVec S8192 32) (i : Fin 8192) :
    shareV h l w b (ix1 i) = 1 - Ideal.div (h (ix1 i) - l ix0 - (((b (ix1 i)).toInt : ℝ) : EReal) * w ix0) (w ix0) := by
  pointwise [shareV]
  rfl

theorem shareV_at (h : FVec Ideal S8192 .f32) (i : Fin 8192) :
    shareV h (lowV h) (widthV h (lowV h)) (binV h (lowV h) (widthV h (lowV h))) (ix1 i) = share (nums h) i := by
  rw [shareV_gen, binV_at, widthV_at, lowV_at]
  rfl

/-- Indices counted from the end where they are negative, as a column. -/
def wrapV (b : IVec S8192 32) : IVec S8192x1 32 :=
  broadcastInDim S8192x1 ![0] bcast_S8192_S8192x1_0 (select (cmpi .slt b (broadcastInDim S8192 ![] bcast_S_S8192 (constantI S_ 32 0#32))) (addi b (broadcastInDim S8192 ![] bcast_S_S8192 (constantI S_ 32 64#32))) b)

theorem wrapV_at (b : IVec S8192 32) (i : Fin 8192) : wrapV b (ix2 i 0) = wrap (b (ix1 i)) := by
  pointwise [wrapV]
  unfold wrap Scalar.select IntOp.cmpi IntOp.addi
  cases (b (ix1 i)).slt 0#32 <;> simp

end Cert.ReferenceIdeal.Line
end
-- ==== Proof.RefHist.lean ====
module

public import proofs.«01_k».proof.Proof.Consts
public import proofs.«01_k».proof.Proof.RefBin
public import Idealize.ShloMosaic.Lib.Routing.OpsPair
public import Idealize.ShloMosaic.Lib.Routing.OpsSet
public import Idealize.ShloMosaic.Lib.Pointwise

/-!
# The operations of the reference on the histogram

The scatter, the running sum and the lookup, read at an index.
-/

@[expose] public section

set_option maxRecDepth 16384

noncomputable section

namespace Cert.ReferenceIdeal.Line

open Cert.ReferenceIdeal Cert.ReferenceIdeal.Gen Cert.Hist
open Idealize.ShloMosaic Idealize.ShloMosaic.StableHlo

/-- A table of 64 as a function of its coordinate. -/
def bins (v : FVec Ideal S64 .f32) (b : Fin 64) : EReal := v (ix1 b)

/-- The index of a coordinate is built in two ways. -/
theorem ix1_eq {n : Nat} (a : Fin n) : (ValueIdx.ix1 a : (Routing.shape1 n).Idx) = (Idealize.ShloMosaic.ix1 a) := by
  funext k
  match k with
  | ⟨0, _⟩ => rfl

theorem ix2_eq {n m : Nat} (a : Fin n) (b : Fin m) : (ValueIdx.ix2 a b : (Routing.shape2 n m).Idx) = (Idealize.ShloMosaic.ix2 a b) := by
  funext k
  match k with
  | ⟨0, _⟩ => rfl
  | ⟨1, _⟩ => rfl

/-- Update `i` lands at the entry its index word names, read signed. -/
theorem lands (idx : IVec S8192x1 32) (i : Fin 8192) (b : Fin 64) :
    scatter_S64_S8192x1_S8192_n_0_0_1.resultIdx? (ix1 i) idx = some (ix1 b) ↔ (idx (ix2 i (0 : Fin 1))).toInt = (b.val : Int) := by
  rw [← ix1_eq b, Routing.resultIdx?_ix1]
  have hm : (0 : Fin 1) ∈ scatter_S64_S8192x1_S8192_n_0_0_1.scatterDimsToOperandDims := List.mem_singleton.2 rfl
  have hwin : scatter_S64_S8192x1_S8192_n_0_0_1.window (ix1 i) 0 = 0 := by
    unfold ScatterDims.window
    rw [dif_neg fun h => (of_decide_eq_true (List.mem_filter.1 h).2) (List.mem_singleton.2 rfl)]
  have hstart : scatter_S64_S8192x1_S8192_n_0_0_1.start (ix1 i) idx 0 = (idx (ix2 i (0 : Fin 1))).toInt := by
    unfold ScatterDims.start
    rw [dif_pos hm]
    refine congrArg (fun k => (idx k).toInt) ?_
    funext a
    match a with
    | ⟨0, _⟩ => rfl
    | ⟨1, _⟩ => rfl
  rw [hwin, hstart]
  simp

/-- A scatter adds to an entry the updates that land there. -/
theorem scatter_at (x : FVec Ideal S64 .f32) (idx : IVec S8192x1 32) (u : FVec Ideal S8192 .f32) (b : Fin 64) :
    Host.scatterAdd scatter_S64_S8192x1_S8192_n_0_0_1 x idx u (ix1 b)
      = x (ix1 b) + ∑ i : Fin 8192, if (idx (ix2 i (0 : Fin 1))).toInt = (b.val : Int) then u (ix1 i) else 0 := by
  refine (show _ = x (ix1 b) + ∑ j ∈ Finset.univ.filter
    (fun j => scatter_S64_S8192x1_S8192_n_0_0_1.resultIdx? j idx = some (ix1 b)), u j from rfl).trans ?_
  rw [Finset.sum_filter, Idealize.ShloMosaic.sum_idx1]
  refine congrArg (x (ix1 b) + ·) (Finset.sum_congr rfl fun i _ => ?_)
  simp only [lands]

/-- The histogram of the rows. -/
def histV (lo up : IVec S8192x1 32) (s : FVec Ideal S8192 .f32) : FVec Ideal S64 .f32 :=
  Host.scatterAdd scatter_S64_S8192x1_S8192_n_0_0_1 (Host.scatterAdd scatter_S64_S8192x1_S8192_n_0_0_1 (broadcastInDim S64 ![] bcast_S_S64 (constant S_ .f32 0x00000000#32)) lo s) up (subf (broadcastInDim S8192 ![] bcast_S_S8192 (constant S_ .f32 0x3F800000#32)) s)

theorem zero_table (b : Fin 64) : broadcastInDim S64 ![] bcast_S_S64 (constant (F := Ideal) S_ .f32 0x00000000#32) (ix1 b) = 0 := by
  pointwise

theorem one_sub (s : FVec Ideal S8192 .f32) (i : Fin 8192) :
    subf (broadcastInDim S8192 ![] bcast_S_S8192 (constant S_ .f32 0x3F800000#32)) s (ix1 i) = 1 - s (ix1 i) := by
  pointwise

theorem histV_at (lo up : IVec S8192x1 32) (s : FVec Ideal S8192 .f32) (b : Fin 64) :
    histV lo up s (ix1 b)
      = (0 + ∑ i : Fin 8192, if (lo (ix2 i (0 : Fin 1))).toInt = (b.val : Int) then s (ix1 i) else 0)
        + ∑ i : Fin 8192, if (up (ix2 i (0 : Fin 1))).toInt = (b.val : Int) then 1 - s (ix1 i) else 0 := by
  unfold histV
  rw [scatter_at, scatter_at, zero_table]
  refine congrArg (fun z : EReal => (0 + ∑ i : Fin 8192, if (lo (ix2 i (0 : Fin 1))).toInt = (b.val : Int) then s (ix1 i) else 0) + z) (Finset.sum_congr rfl fun i _ => ?_)
  rw [one_sub]

/-- The new running histogram. -/
def blendV (o g : FVec Ideal S64 .f32) : FVec Ideal S64 .f32 :=
  addf (mulf (broadcastInDim S64 ![] bcast_S_S64 (constant S_ .f32 0x00000000#32)) o) (mulf (broadcastInDim S64 ![] bcast_S_S64 (constant S_ .f32 0x3F800000#32)) (Host.divf g (broadcastInDim S64 ![] bcast_S_S64 (addf (Host.reduceAdd g (constant S_ .f32 0x00000000#32) reducesTo_S64_S_d0 h_S_) (constant S_ .f32 0x358637BD#32)))))

theorem blendV_at (o g : FVec Ideal S64 .f32) (b : Fin 64) :
    blendV o g (ix1 b) = 0 * o (ix1 b) + 1 * norm (bins g) b := by
  rw [one_mul]
  pointwise [blendV]
  rfl

/-- The running histogram divided by its sum. -/
def densV (g : FVec Ideal S64 .f32) : FVec Ideal S64 .f32 :=
  Host.divf g (broadcastInDim S64 ![] bcast_S_S64 (Host.reduceAdd g (constant S_ .f32 0x00000000#32) reducesTo_S64_S_d0 h_S_))

theorem densV_at (g : FVec Ideal S64 .f32) (b : Fin 64) : densV g (ix1 b) = dens (bins g) b := by
  pointwise [densV]
  rfl

/-- A sum of a list read from the left. -/
theorem foldl_add {α : Type} (l : List α) (f : α → EReal) (z : EReal) :
    l.foldl (fun r n => r + f n) z = z + (l.map f).sum := by
  induction l generalizing z with
  | nil => simp
  | cons a l ih => simp [ih, add_assoc]

/-- The running sums of a table. -/
def cumulV (g : FVec Ideal S64 .f32) : FVec Ideal S64 .f32 :=
  Host.reduceWindowAdd ![64] ![1] ![63] ![0] g (broadcastInDim S_ ![] bcast_S_S_ (constant S_ .f32 0x00000000#32)) reduceWindows_S64_S64_w64s1p63_0 h_S_

/-- Moving a sum by `63 - b` places, with zeros outside. -/
theorem shift_sum (f : Fin 64 → EReal) (b : Fin 64) :
    (∑ n : Fin 64, if h : 63 ≤ b.val + n.val then f ⟨b.val + n.val - 63, by omega⟩ else 0)
      = ∑ a : Fin 64, if a ≤ b then f a else 0 := by
  rw [← Finset.sum_filter]
  have e : (∑ n : Fin 64, if h : 63 ≤ b.val + n.val then f ⟨b.val + n.val - 63, by omega⟩ else 0)
      = ∑ n ∈ Finset.univ.filter (fun n : Fin 64 => 63 ≤ b.val + n.val), f ⟨b.val + n.val - 63, by omega⟩ := by
    rw [Finset.sum_filter]
    refine Finset.sum_congr rfl fun n _ => ?_
    by_cases h : 63 ≤ b.val + n.val <;> simp [h]
  rw [e]
  refine Finset.sum_bij' (fun n _ => (⟨b.val + n.val - 63, by omega⟩ : Fin 64))
    (fun a ha => (⟨a.val + 63 - b.val, by
      have := (Finset.mem_filter.1 ha).2
      have : a.val ≤ b.val := this
      omega⟩ : Fin 64)) ?_ ?_ ?_ ?_ ?_
  · intro n hn
    have h := (Finset.mem_filter.1 hn).2
    refine Finset.mem_filter.2 ⟨Finset.mem_univ _, ?_⟩
    show b.val + n.val - 63 ≤ b.val
    omega
  · intro a ha
    refine Finset.mem_filter.2 ⟨Finset.mem_univ _, ?_⟩
    show 63 ≤ b.val + (a.val + 63 - b.val)
    omega
  · intro n hn
    have h := (Finset.mem_filter.1 hn).2
    refine Fin.ext ?_
    show b.val + n.val - 63 + 63 - b.val = n.val
    omega
  · intro a ha
    have h : a.val ≤ b.val := (Finset.mem_filter.1 ha).2
    refine Fin.ext ?_
    show b.val + (a.val + 63 - b.val) - 63 = a.val
    omega
  · intro n hn
    rfl

/-- The initial value of the running sums. -/
theorem zero_start : broadcastInDim S_ ![] bcast_S_S_ (constant (F := Ideal) S_ .f32 0x00000000#32) (Shape.Idx.first h_S_) = (0 : EReal) := by
  rw [show Shape.Idx.first h_S_ = ix0 from funext fun a => a.elim0]
  pointwise

theorem cumulV_at (g : FVec Ideal S64 .f32) (b : Fin 64) : cumulV g (ix1 b) = cumul (bins g) b := by
  unfold cumul
  rw [← shift_sum]
  have hb := b.isLt
  refine (show cumulV g (ix1 b) = (List.finRange (Routing.shape1 64).numel).foldl (fun (r : EReal) n => r +
      (if h : 63 ≤ b.val + (n.cast (Routing.numel1 64)).val then bins g ⟨b.val + (n.cast (Routing.numel1 64)).val - 63, by omega⟩ else 0)) 0 from ?_).trans ?_
  · refine (show cumulV g (ix1 b) = Host.reduceWindow (fun (a b : EReal) => a + b) ![64] ![1] ![63] ![0] g
      (fun _ => broadcastInDim S_ ![] bcast_S_S_ (constant (F := Ideal) S_ .f32 0x00000000#32) (Shape.Idx.first h_S_))
      reduceWindows_S64_S64_w64s1p63_0 h_S_ (ix1 b) from rfl).trans ?_
    rw [zero_start]
    unfold Host.reduceWindow
    refine congrArg (fun f => (List.finRange (Routing.shape1 64).numel).foldl f (0 : EReal)) ?_
    funext r n
    refine congrArg (r + ·) ?_
    have hw : ((Routing.shape1 64).rowMajor.symm n 0).val = n.val := by rw [Routing.symm1]; rfl
    have hn : n.val < 64 := (n.cast (Routing.numel1 64)).isLt
    have hc : (n.cast (Routing.numel1 64)).val = n.val := rfl
    split
    · next hin =>
      have h0 := hin 0
      change 63 ≤ b.val * 1 + ((Routing.shape1 64).rowMajor.symm n 0).val
        ∧ b.val * 1 + ((Routing.shape1 64).rowMajor.symm n 0).val - 63 < 64 at h0
      rw [hw] at h0
      rw [dif_pos (by rw [hc]; omega)]
      refine congrArg g (funext fun a => Fin.ext ?_)
      match a with
      | ⟨0, _⟩ =>
        show b.val * 1 + ((Routing.shape1 64).rowMajor.symm n 0).val - 63 = b.val + n.val - 63
        rw [hw, Nat.mul_one]
    · next hin =>
      rw [dif_neg fun hle => hin fun a => by
        match a with
        | ⟨0, _⟩ =>
          show 63 ≤ b.val * 1 + ((Routing.shape1 64).rowMajor.symm n 0).val
            ∧ b.val * 1 + ((Routing.shape1 64).rowMajor.symm n 0).val - 63 < 64
          rw [hc] at hle
          rw [hw]
          omega]
  · rw [foldl_add, zero_add, ← Fin.sum_univ_def]
    exact Fintype.sum_equiv (finCongr (Routing.numel1 64)) _ _ fun n => rfl

/-- A lookup reads the entry the index names, kept inside the table. -/
theorem gather_at (g : FVec Ideal S64 .f32) (idx : IVec S8192x1 32) (i : Fin 8192) :
    Host.gather gather_S64_S8192x1_S8192_n_0_n_n_0_1_1 g idx (ix1 i) = g (ix1 (spot (idx (ix2 i (0 : Fin 1))))) := by
  have h := StableHlo.Predicate.gather_take gather_S64_S8192x1_S8192_n_0_n_n_0_1_1 rfl rfl rfl rfl g idx i (by decide)
  rw [Routing.ofFin_eq_ix1, Routing.ofFin_eq_ix1, ix1_eq, ix1_eq] at h
  refine h.trans (congrArg (fun k => g (ix1 k)) (Fin.ext ?_))
  show min (idx (StableHlo.Predicate.ixP i)).toInt.toNat (64 - 1) = min (idx (ix2 i (0 : Fin 1))).toInt.toNat 63
  rw [Routing.ixP_eq_ix2, ix2_eq]

end Cert.ReferenceIdeal.Line
end
-- ==== Proof.RefVal.lean ====
module

public import proofs.«01_k».proof.Proof.Consts
public import proofs.«01_k».proof.Proof.RefHist
public import Idealize.ShloMosaic.Lib.Pointwise

/-!
# What the reference computes

Each named array of the reference is one of the operations on arrays; read together they give the loss.
-/

@[expose] public section

set_option maxRecDepth 16384

noncomputable section

namespace Cert.ReferenceIdeal.Line

open Cert.ReferenceIdeal Cert.ReferenceIdeal.Gen Cert.Hist
open Idealize.ShloMosaic Idealize.ShloMosaic.StableHlo

variable (V0 : Valuation τ sig (Elt Ideal))

/-- The samples. -/
def argX : FVec Ideal S8192x64 .f32 := V0 (Proc.devRef .tc main_arg0)

/-- The labels. -/
def argT : IVec S8192 32 := V0 (Proc.devRef .tc main_arg1)

/-- The old histogram. -/
def argH : FVec Ideal S64 .f32 := V0 (Proc.devRef .tc main_arg2)

/-- The largest distances. -/
def posA : FVec Ideal S8192 .f32 := posV (sameV (argT V0)) (distV (argX V0))

/-- The smallest distances. -/
def negA : FVec Ideal S8192 .f32 := negV (sameV (argT V0)) (distV (argX V0))

/-- Their differences. -/
def diffA : FVec Ideal S8192 .f32 := subf (posA V0) (negA V0)

/-- The lower bins. -/
def binA : IVec S8192 32 := binV (diffA V0) (lowV (diffA V0)) (widthV (diffA V0) (lowV (diffA V0)))

/-- The shares. -/
def shareA : FVec Ideal S8192 .f32 := shareV (diffA V0) (lowV (diffA V0)) (widthV (diffA V0) (lowV (diffA V0))) (binA V0)

/-- The histogram. -/
def histA : FVec Ideal S64 .f32 := histV (wrapV (binA V0)) (wrapV (upperV (binA V0))) (shareA V0)

/-- The running histogram. -/
def blendA : FVec Ideal S64 .f32 := blendV (argH V0) (histA V0)

/-- The weights. -/
def weightA : FVec Ideal S8192 .f32 :=
  Host.gather gather_S64_S8192x1_S8192_n_0_n_n_0_1_1 (cumulV (densV (blendA V0))) (wrapV (binA V0))

theorem v13_eq : res_main_v13 V0 = distV (argX V0) := rfl

theorem v18_eq : res_main_v18 V0 = sameV (argT V0) := rfl

theorem v20_eq : res_main_v20 V0 = posA V0 := by
  unfold res_main_v20 posA posV
  rw [v13_eq, v18_eq]

theorem v22_eq : res_main_v22 V0 = negA V0 := by
  unfold res_main_v22 negA negV
  rw [v13_eq, v18_eq]

theorem v23_eq : res_main_v23 V0 = diffA V0 := by
  unfold res_main_v23 diffA
  rw [v20_eq, v22_eq]

theorem v27_eq : res_main_v27 V0 = lowV (diffA V0) := by
  unfold res_main_v27 lowV
  rw [v23_eq]

theorem v29_eq : res_main_v29 V0 = widthV (diffA V0) (lowV (diffA V0)) := by
  unfold res_main_v29 widthV
  rw [v27_eq, v23_eq]

theorem v35_eq : res_main_v35 V0 = binA V0 := by
  unfold res_main_v35 binA binV
  rw [v27_eq, v29_eq, v23_eq]

theorem v84_eq : res_main_v84 V0 = binA V0 := by
  unfold res_main_v84 binA binV
  rw [v27_eq, v29_eq, v23_eq]

theorem v38_eq : res_main_v38 V0 = upperV (binA V0) := by
  unfold res_main_v38 upperV
  rw [v35_eq]

theorem v48_eq : res_main_v48 V0 = shareA V0 := by
  unfold res_main_v48 shareA shareV
  rw [v35_eq, v27_eq, v29_eq, v23_eq]

theorem v65_eq : res_main_v65 V0 = histA V0 := by
  unfold res_main_v65 histA histV wrapV
  rw [v35_eq, v38_eq, v48_eq]

theorem v74_eq : res_main_v74 V0 = blendA V0 := by
  unfold res_main_v74 blendA blendV argH
  rw [v65_eq]

theorem v91_eq : res_main_v91 V0 = weightA V0 := by
  unfold res_main_v91 weightA cumulV densV wrapV
  rw [v74_eq, v84_eq]

/-- Subtraction, read at an index. -/
theorem sub_at (a b : FVec Ideal S8192 .f32) (i : Fin 8192) : subf a b (ix1 i) = a (ix1 i) - b (ix1 i) := by
  pointwise

theorem posA_at (i : Fin 8192) : posA V0 (ix1 i) = posR (mat (argX V0)) (words (argT V0)) i := posV_at _ _ i

theorem negA_at (i : Fin 8192) : negA V0 (ix1 i) = negR (mat (argX V0)) (words (argT V0)) i := negV_at _ _ i

/-- The differences are those of the specification. -/
theorem diffA_eq : nums (diffA V0) = hvR (mat (argX V0)) (words (argT V0)) := by
  funext i
  unfold nums diffA hvR
  rw [sub_at, posA_at, negA_at]

theorem binA_at (i : Fin 8192) : binA V0 (ix1 i) = bin (hvR (mat (argX V0)) (words (argT V0))) i := by
  rw [← diffA_eq]
  exact binV_at _ i

theorem shareA_at (i : Fin 8192) : shareA V0 (ix1 i) = share (hvR (mat (argX V0)) (words (argT V0))) i := by
  rw [← diffA_eq]
  exact shareV_at _ i

/-- The histogram is that of the specification. -/
theorem histA_eq : bins (histA V0) = histR (hvR (mat (argX V0)) (words (argT V0))) := by
  funext b
  unfold bins histA histR
  rw [histV_at]
  simp only [wrapV_at, upperV_at, binA_at, shareA_at, upper]
  rfl

/-- The running histogram is that of the specification. -/
theorem blendA_eq : bins (blendA V0) = blend (bins (argH V0)) (hvR (mat (argX V0)) (words (argT V0))) := by
  funext b
  unfold blend
  rw [← histA_eq]
  exact blendV_at _ _ b

/-- The weights are those of the specification. -/
theorem weightA_at (i : Fin 8192) :
    weightA V0 (ix1 i) = weightR (bins (argH V0)) (hvR (mat (argX V0)) (words (argT V0))) i := by
  unfold weightA weightR
  rw [gather_at, cumulV_at, wrapV_at, binA_at, ← blendA_eq]
  refine congrArg (fun g => cumul g _) (funext fun b => densV_at _ b)

/-- The mean of a product, negated, plus another mean of a product. -/
theorem mean_at (n p w : FVec Ideal S8192 .f32) :
    shapeCast S1x1 (addf (Host.negf (Host.divf (Host.reduceAdd (mulf n w) (constant S_ .f32 0x00000000#32) reducesTo_S8192_S_d0 h_S_) (constant S_ .f32 0x46000000#32))) (Host.divf (Host.reduceAdd (mulf p w) (constant S_ .f32 0x00000000#32) reducesTo_S8192_S_d0 h_S_) (constant S_ .f32 0x46000000#32))) shapeCasts_S_S1x1 (ix2 0 0)
      = -(Ideal.div (∑ i, n (ix1 i) * w (ix1 i)) 8192) + Ideal.div (∑ i, p (ix1 i) * w (ix1 i)) 8192 := by
  rw [← lit_8192]
  pointwise

/-- The loss the reference ends with. -/
def lossA : FVec Ideal S1x1 .f32 :=
  shapeCast _ (addf (Host.negf (Host.divf (Host.reduceAdd (mulf (res_main_v22 V0) (res_main_v91 V0)) (constant S_ .f32 0x00000000#32) reducesTo_S8192_S_d0 h_S_) (constant S_ .f32 0x46000000#32))) (Host.divf (Host.reduceAdd (mulf (res_main_v20 V0) (res_main_v91 V0)) (constant S_ .f32 0x00000000#32) reducesTo_S8192_S_d0 h_S_) (constant S_ .f32 0x46000000#32))) shapeCasts_S_S1x1

/-- The loss is that of the specification. -/
theorem lossA_at : lossA V0 (ix2 0 0) = lossR (mat (argX V0)) (words (argT V0)) (bins (argH V0)) := by
  unfold lossA lossR
  rw [v20_eq, v22_eq, v91_eq, mean_at]
  simp only [posA_at, negA_at, weightA_at]

end Cert.ReferenceIdeal.Line
end
-- ==== Proof.MathRow.lean ====
module

public import proofs.«01_k».proof.Proof.Consts

/-!
# The two differences of a row agree

For samples that are real numbers, taking the extremes before or after the square root gives the same distances.
-/

@[expose] public section

noncomputable section

namespace Cert.Hist

open Idealize.ShloMosaic

/-- A finite sum of real numbers is the same sum among the extended real numbers. -/
theorem real_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem real_max (a b : ℝ) : max (a : EReal) (b : EReal) = ((max a b : ℝ) : EReal) :=
  (EReal.coe_strictMono.monotone.map_max (a := a) (b := b)).symm

theorem real_min (a b : ℝ) : min (a : EReal) (b : EReal) = ((min a b : ℝ) : EReal) :=
  (EReal.coe_strictMono.monotone.map_min (a := a) (b := b)).symm

theorem real_two : (2 : EReal) = ((2 : ℝ) : EReal) := rfl

theorem real_sqrt {r : ℝ} (h : 0 ≤ r) : Ideal.sqrt (r : EReal) = ((Real.sqrt r : ℝ) : EReal) := by
  rw [Ideal.sqrt_coe, if_neg (not_lt.2 h)]

/-- The square root grows with its argument. -/
theorem sqrt_grows : Monotone Ideal.sqrt := by
  intro a b h
  induction a with
  | bot => exact bot_le
  | top => rw [top_le_iff.1 h]
  | coe r =>
    induction b with
    | bot => exact absurd h (by simp)
    | top => exact le_top
    | coe t =>
      have hrt : r ≤ t := EReal.coe_le_coe_iff.1 h
      rw [Ideal.sqrt_coe, Ideal.sqrt_coe]
      by_cases h1 : r < 0
      · rw [if_pos h1]; exact bot_le
      · rw [if_neg h1, if_neg (by linarith), EReal.coe_le_coe_iff]
        exact Real.sqrt_le_sqrt hrt

section Rows

variable {X : Fin 8192 → Fin 64 → EReal} {T : Fin 8192 → BitVec 32} {x : Fin 8192 → Fin 64 → ℝ}

/-- The squared length of a row of real numbers. -/
theorem sq_real (hx : ∀ i k, X i k = (x i k : EReal)) (i : Fin 8192) : sq X i = ((∑ k, x i k * x i k : ℝ) : EReal) := by
  unfold sq
  simp only [hx, ← EReal.coe_mul]
  exact real_sum _ _

/-- Half a squared distance, for real rows. -/
theorem half_real (hx : ∀ i k, X i k = (x i k : EReal)) (i j : Fin 8192) :
    half X i j = (((-∑ k, x i k * x j k) + 1 / 2 * ∑ k, x j k * x j k : ℝ) : EReal) := by
  unfold half
  have e : (∑ k, (0 - X i k) * X j k) = ((∑ k, (0 - x i k) * x j k : ℝ) : EReal) := by
    simp only [hx, ← EReal.coe_zero, ← EReal.coe_sub, ← EReal.coe_mul]
    exact real_sum _ _
  rw [e, sq_real hx j, ← EReal.coe_mul, ← EReal.coe_sub, ← EReal.coe_add, ← EReal.coe_add]
  refine congrArg _ ?_
  simp only [zero_sub, neg_mul, Finset.sum_neg_distrib]
  ring

/-- A distance, for real rows. -/
theorem dist_real (hx : ∀ i k, X i k = (x i k : EReal)) (i j : Fin 8192) : ∃ r : ℝ, dist X i j = (r : EReal) := by
  obtain ⟨e, he, hee⟩ := eps_real
  unfold dist
  have hp : (∑ k, X i k * X j k) = ((∑ k, x i k * x j k : ℝ) : EReal) := by
    simp only [hx, ← EReal.coe_mul]
    exact real_sum _ _
  rw [hp, sq_real hx, sq_real hx, hee, real_two, ← EReal.coe_mul, ← EReal.coe_add, ← EReal.coe_sub, real_max,
    real_sqrt (le_max_of_le_left he.le)]
  exact ⟨_, rfl⟩

/-- The distance from half of it. -/
theorem root_half (hx : ∀ i k, X i k = (x i k : EReal)) (i j : Fin 8192) : root X i (half X i j) = dist X i j := by
  unfold root dist
  have hp : (∑ k, X i k * X j k) = ((∑ k, x i k * x j k : ℝ) : EReal) := by
    simp only [hx, ← EReal.coe_mul]
    exact real_sum _ _
  rw [hp, half_real hx, sq_real hx, sq_real hx, real_two, ← EReal.coe_mul, ← EReal.coe_mul, ← EReal.coe_add,
    ← EReal.coe_add, ← EReal.coe_sub]
  refine congrArg (fun z : ℝ => Ideal.sqrt (max eps (z : EReal))) ?_
  ring

/-- The distance grows with the half. -/
theorem root_grows (X : Fin 8192 → Fin 64 → EReal) (i : Fin 8192) : Monotone (root X i) := by
  intro a b h
  refine sqrt_grows (max_le_max le_rfl (add_le_add le_rfl ?_))
  exact mul_le_mul_of_nonneg_left h (by norm_num)

/-- The distance of an empty choice. -/
theorem root_top (hx : ∀ i k, X i k = (x i k : EReal)) (i : Fin 8192) : root X i ⊤ = ⊤ := by
  unfold root
  rw [sq_real hx, real_two, EReal.coe_mul_top_of_pos (by norm_num), EReal.coe_add_top]
  simp

/-- The farthest row of the same label, found before or after the square root. -/
theorem pos_eq (hx : ∀ i k, X i k = (x i k : EReal)) (i : Fin 8192) :
    root X i (⨆ j, if T i = T j then half X i j else ⊥) = posR X T i := by
  obtain ⟨a, ha⟩ := exists_eq_ciSup_of_finite (f := fun j => if T i = T j then half X i j else ⊥)
  have hs : T i = T a := by
    by_contra hne
    have h1 : half X i i ≤ ⨆ j, if T i = T j then half X i j else ⊥ :=
      le_iSup_of_le i (by rw [if_pos rfl])
    rw [← ha] at h1
    rw [if_neg hne, half_real hx] at h1
    exact absurd (le_bot_iff.1 h1) (EReal.coe_ne_bot _)
  apply le_antisymm
  · rw [← ha]
    rw [if_pos hs, root_half hx]
    exact le_iSup_of_le a (by rw [if_pos hs])
  · refine iSup_le fun j => ?_
    by_cases h : T i = T j
    · rw [if_pos h, ← root_half hx]
      exact root_grows X i (le_iSup_of_le j (by rw [if_pos h]))
    · rw [if_neg h]; exact bot_le

/-- The nearest row of another label, found before or after the square root. -/
theorem neg_eq (hx : ∀ i k, X i k = (x i k : EReal)) (i : Fin 8192) :
    root X i (⨅ j, if T i = T j then ⊤ else half X i j) = negR X T i := by
  obtain ⟨a, ha⟩ := exists_eq_ciInf_of_finite (f := fun j => if T i = T j then ⊤ else half X i j)
  have he : ∀ j, root X i (if T i = T j then ⊤ else half X i j) = if T i = T j then ⊤ else dist X i j := fun j => by
    by_cases h : T i = T j
    · rw [if_pos h, if_pos h, root_top hx]
    · rw [if_neg h, if_neg h, root_half hx]
  apply le_antisymm
  · refine le_iInf fun j => ?_
    rw [← he]
    exact root_grows X i (iInf_le _ j)
  · rw [← ha]
    rw [he]
    exact iInf_le _ a

/-- The kernel's differences are the reference's. -/
theorem hv_eq (hx : ∀ i k, X i k = (x i k : EReal)) : hvK X T = hvR X T := by
  funext i
  unfold hvK hvR
  rw [pos_eq hx, neg_eq hx]

/-- The farthest distance is a real number. -/
theorem pos_real (hx : ∀ i k, X i k = (x i k : EReal)) (i : Fin 8192) : ∃ r : ℝ, posR X T i = (r : EReal) := by
  obtain ⟨a, ha⟩ := exists_eq_ciSup_of_finite (f := fun j => if T i = T j then dist X i j else ⊥)
  obtain ⟨r, hr⟩ := dist_real hx i i
  obtain ⟨t, ht⟩ := dist_real hx i a
  have hs : T i = T a := by
    by_contra hne
    have h1 : dist X i i ≤ ⨆ j, if T i = T j then dist X i j else ⊥ :=
      le_iSup_of_le i (by rw [if_pos rfl])
    rw [← ha] at h1
    rw [if_neg hne, hr] at h1
    exact absurd h1 (by simp)
  refine ⟨t, ?_⟩
  unfold posR
  rw [← ha]
  rw [if_pos hs, ht]

/-- The nearest distance is a real number where some row has another label. -/
theorem neg_real (hx : ∀ i k, X i k = (x i k : EReal)) (i b : Fin 8192) (hb : T i ≠ T b) :
    ∃ r : ℝ, negR X T i = (r : EReal) := by
  obtain ⟨a, ha⟩ := exists_eq_ciInf_of_finite (f := fun j => if T i = T j then ⊤ else dist X i j)
  obtain ⟨r, hr⟩ := dist_real hx i b
  obtain ⟨t, ht⟩ := dist_real hx i a
  have hs : T i ≠ T a := by
    intro he
    have h1 : (⨅ j, if T i = T j then ⊤ else dist X i j) ≤ dist X i b :=
      iInf_le_of_le b (by rw [if_neg hb])
    rw [← ha] at h1
    rw [if_pos he, hr] at h1
    exact absurd h1 (by simp)
  refine ⟨t, ?_⟩
  unfold negR
  rw [← ha]
  rw [if_neg hs, ht]

/-- Either every distance is real, or no row has another label than another and no nearest distance exists. -/
theorem two_cases (hx : ∀ i k, X i k = (x i k : EReal)) :
    ∃ p : Fin 8192 → ℝ, (∀ i, posR X T i = (p i : EReal))
      ∧ ((∃ n : Fin 8192 → ℝ, ∀ i, negR X T i = (n i : EReal)) ∨ ∀ i, negR X T i = ⊤) := by
  choose p hp using fun i => pos_real (T := T) hx i
  refine ⟨p, hp, ?_⟩
  by_cases h : ∀ i j, T i = T j
  · right
    intro i
    unfold negR
    simp only [if_pos (h i _), iInf_const]
  · left
    simp only [not_forall] at h
    obtain ⟨a, b, hab⟩ := h
    have hn : ∀ i, ∃ r : ℝ, negR X T i = (r : EReal) := fun i => by
      by_cases hi : T i = T a
      · exact neg_real hx i b (by rw [hi]; exact hab)
      · exact neg_real hx i a hi
    choose n hn' using hn
    exact ⟨n, hn'⟩

end Rows

end Cert.Hist
end
-- ==== Proof.MathBin.lean ====
module

public import proofs.«01_k».proof.Proof.MathRow

/-!
# The two histograms and weights agree

Where every lower bin is one of the 64, both programs form the same histogram and the same weights; where the shares
are real numbers as well, so are the weights.
-/

@[expose] public section

noncomputable section

namespace Cert.Hist

open Idealize.ShloMosaic

/-- A quotient of real numbers. -/
theorem real_div (a : ℝ) {b : ℝ} (hb : b ≠ 0) : Ideal.div (a : EReal) (b : EReal) = ((a / b : ℝ) : EReal) := by
  rw [Ideal.div_coe hb, ← EReal.coe_mul, mul_one_div]

theorem word_int (n : Fin 64) : (BitVec.ofNat 32 n.val).toInt = (n.val : Int) := by
  have h := n.isLt
  rw [BitVec.toInt_eq_toNat_of_lt (by rw [BitVec.toNat_ofNat]; omega), BitVec.toNat_ofNat]
  omega

theorem word_eq (b n : Fin 64) : BitVec.ofNat 32 b.val = BitVec.ofNat 32 n.val ↔ b = n := by
  constructor
  · intro h
    have := congrArg BitVec.toInt h
    rw [word_int, word_int] at this
    exact Fin.ext (by omega)
  · rintro rfl; rfl

theorem word_le (b n : Fin 64) : (BitVec.ofNat 32 b.val).sle (BitVec.ofNat 32 n.val) = true ↔ b ≤ n := by
  rw [BitVec.sle_iff_toInt_le, word_int, word_int, Fin.le_def]
  omega

theorem wrap_word : ∀ n : Fin 64, wrap (BitVec.ofNat 32 n.val) = BitVec.ofNat 32 n.val := by decide

/-- The bin after `n`, the last one after itself. -/
def next (n : Fin 64) : Fin 64 := ⟨min (n.val + 1) 63, by omega⟩

theorem next_kernel : ∀ n : Fin 64, IntOp.minsi (BitVec.ofNat 32 n.val + 1#32) 63#32 = BitVec.ofNat 32 (next n).val := by
  decide

theorem next_reference : ∀ n : Fin 64,
    IntOp.minsi 63#32 (IntOp.maxsi 0#32 (BitVec.ofNat 32 n.val + 1#32)) = BitVec.ofNat 32 (next n).val := by
  decide

theorem spot_word (n : Fin 64) : spot (BitVec.ofNat 32 n.val) = n := by
  have h := n.isLt
  refine Fin.ext ?_
  show min (BitVec.ofNat 32 n.val).toInt.toNat 63 = n.val
  rw [word_int]
  omega

section Bins

variable {h : Fin 8192 → EReal} {n : Fin 8192 → Fin 64}

/-- The kernel's histogram where the bins are known. -/
theorem histK_bins (hb : ∀ i, bin h i = BitVec.ofNat 32 (n i).val) (b : Fin 64) :
    histK h b = ∑ i, ((if b = n i then share h i else 0) + if b = next (n i) then 1 - share h i else 0) := by
  unfold histK
  refine Finset.sum_congr rfl fun i _ => ?_
  simp only [hb, next_kernel, word_eq]

/-- The reference's histogram where the bins are known. -/
theorem histR_bins (hb : ∀ i, bin h i = BitVec.ofNat 32 (n i).val) (b : Fin 64) :
    histR h b = ∑ i, ((if b = n i then share h i else 0) + if b = next (n i) then 1 - share h i else 0) := by
  unfold histR upper
  rw [zero_add, Finset.sum_add_distrib]
  have e : ∀ a : Fin 64, (a.val : Int) = (b.val : Int) ↔ b = a := fun a => by
    rw [Fin.ext_iff]; omega
  simp only [hb, next_reference, wrap_word, word_int, e]

/-- The two running histograms agree, whatever the old one. -/
theorem blend_eq (hb : ∀ i, bin h i = BitVec.ofNat 32 (n i).val) (H : Fin 64 → EReal) :
    blend H h = norm (histR h) := by
  funext b
  unfold blend
  rw [zero_mul, zero_add, one_mul]

/-- The two weights agree. -/
theorem weight_eq (hb : ∀ i, bin h i = BitVec.ofNat 32 (n i).val) (H : Fin 64 → EReal) (i : Fin 8192) :
    weightK h i = weightR H h i := by
  have e : histK h = histR h := funext fun b => by rw [histK_bins hb, histR_bins hb]
  unfold weightK weightR cumul
  rw [blend_eq hb, hb, wrap_word, spot_word, e]
  simp only [word_le]

/-- The histogram of real shares, as real numbers. -/
def histReal (n : Fin 8192 → Fin 64) (s : Fin 8192 → ℝ) (b : Fin 64) : ℝ :=
  ∑ i, ((if b = n i then s i else 0) + if b = next (n i) then 1 - s i else 0)

/-- Every row adds one to the histogram. -/
theorem histReal_total (n : Fin 8192 → Fin 64) (s : Fin 8192 → ℝ) : ∑ b, histReal n s b = 8192 := by
  unfold histReal
  rw [Finset.sum_comm]
  simp [Finset.sum_add_distrib]

theorem hist_real {s : Fin 8192 → ℝ} (hb : ∀ i, bin h i = BitVec.ofNat 32 (n i).val)
    (hs : ∀ i, share h i = (s i : EReal)) (b : Fin 64) : histR h b = (histReal n s b : EReal) := by
  rw [histR_bins hb]
  unfold histReal
  rw [← real_sum]
  refine Finset.sum_congr rfl fun i _ => ?_
  rw [hs, EReal.coe_add]
  congr 1
  · split <;> rfl
  · split <;> rfl

/-- The weights are real numbers: the share of the rows in the bins up to a row's own. -/
theorem weight_real {s : Fin 8192 → ℝ} (hb : ∀ i, bin h i = BitVec.ofNat 32 (n i).val)
    (hs : ∀ i, share h i = (s i : EReal)) (H : Fin 64 → EReal) (i : Fin 8192) :
    weightR H h i = (((∑ a : Fin 64, if a ≤ n i then histReal n s a else 0) / 8192 : ℝ) : EReal) := by
  obtain ⟨t, ht, htt⟩ := tiny_real
  have h0 : (8192 + t : ℝ) ≠ 0 := by positivity
  have hn : ∀ b, norm (histR h) b = ((histReal n s b / (8192 + t) : ℝ) : EReal) := fun b => by
    unfold norm
    simp only [hist_real hb hs]
    rw [real_sum, histReal_total, htt, ← EReal.coe_add, real_div _ h0]
  have hd : ∀ b, dens (norm (histR h)) b = ((histReal n s b / 8192 : ℝ) : EReal) := fun b => by
    unfold dens
    simp only [hn]
    rw [real_sum, ← Finset.sum_div, histReal_total, real_div _ (by positivity)]
    refine congrArg _ ?_
    field_simp
  unfold weightR cumul
  rw [blend_eq hb, hb, wrap_word, spot_word, Finset.sum_div, ← real_sum]
  refine Finset.sum_congr rfl fun a _ => ?_
  rw [hd]
  by_cases ha : a ≤ n i
  · rw [if_pos ha, if_pos ha]
  · rw [if_neg ha, if_neg ha, zero_div, EReal.coe_zero]

end Bins

end Cert.Hist
end
-- ==== Proof.MathLoss.lean ====
module

public import proofs.«01_k».proof.Proof.MathBin

/-!
# The two losses agree

Either every difference is a real number, or all labels are the same and every difference is negative infinity.
-/

@[expose] public section

noncomputable section

namespace Cert.Hist

open Idealize.ShloMosaic

theorem real_63 : (63 : EReal) = ((63 : ℝ) : EReal) := rfl

theorem real_8192 : (8192 : EReal) = ((8192 : ℝ) : EReal) := rfl

/-- A real number between 0 and 63 falls into one of the 64 bins. -/
theorem bin_of_real (q : ℝ) (h0 : 0 ≤ q) (h1 : q ≤ 63) :
    ∃ n : Fin 64, Ideal.fptosi 32 (Ideal.liftRound Int.floor (q : EReal)) = BitVec.ofNat 32 n.val := by
  have f0 : 0 ≤ ⌊q⌋ := Int.floor_nonneg.2 h0
  have f1 : ⌊q⌋ ≤ 63 := by
    have : ⌊q⌋ ≤ ⌊(63 : ℝ)⌋ := Int.floor_le_floor h1
    rwa [show ⌊(63 : ℝ)⌋ = 63 from Int.floor_ofNat 63] at this
  refine ⟨⟨⌊q⌋.toNat, by omega⟩, ?_⟩
  have e : Ideal.fptosi 32 (Ideal.liftRound Int.floor (q : EReal))
      = BitVec.ofInt 32 (max (-(2 ^ 31 : Nat) : Int) (min (((2 ^ 31 : Nat) : Int) - 1)
          (if 0 ≤ ((⌊q⌋ : ℤ) : ℝ) then ⌊((⌊q⌋ : ℤ) : ℝ)⌋ else ⌈((⌊q⌋ : ℤ) : ℝ)⌉))) := rfl
  rw [e, if_pos (by exact_mod_cast f0), Int.floor_intCast, min_eq_right (by omega), max_eq_right (by omega)]
  show BitVec.ofInt 32 ⌊q⌋ = BitVec.ofNat 32 ⌊q⌋.toNat
  rw [← BitVec.ofInt_natCast, Int.toNat_of_nonneg f0]

section Real

variable {h : Fin 8192 → EReal} {d : Fin 8192 → ℝ}

/-- The lower end of the bins for real differences. -/
theorem lowest_real (hd : ∀ i, h i = (d i : EReal)) : ∃ lo : ℝ, lowest h = (lo : EReal) ∧ lo ≤ -2 ∧ ∀ i, lo ≤ d i := by
  obtain ⟨a, ha⟩ := exists_eq_ciInf_of_finite (f := h)
  refine ⟨min (-2) (d a), ?_, min_le_left _ _, fun i => ?_⟩
  · unfold lowest
    rw [← ha, hd, real_two, ← EReal.coe_neg, real_min]
  · have hi : h a ≤ h i := ha.le.trans (iInf_le _ i)
    rw [hd, hd, EReal.coe_le_coe_iff] at hi
    exact (min_le_right _ _).trans hi

/-- The upper end of the bins for real differences. -/
theorem highest_real (hd : ∀ i, h i = (d i : EReal)) :
    ∃ hi : ℝ, max 2 (⨆ j, h j) = (hi : EReal) ∧ 2 ≤ hi ∧ ∀ i, d i ≤ hi := by
  obtain ⟨a, ha⟩ := exists_eq_ciSup_of_finite (f := h)
  refine ⟨max 2 (d a), ?_, le_max_left _ _, fun i => ?_⟩
  · rw [← ha, hd, real_two, real_max]
  · have hi : h i ≤ h a := (le_iSup _ i).trans ha.ge
    rw [hd, hd, EReal.coe_le_coe_iff] at hi
    exact hi.trans (le_max_right _ _)

/-- Real differences have a bin and a real share. -/
theorem bins_real (hd : ∀ i, h i = (d i : EReal)) (i : Fin 8192) :
    ∃ (n : Fin 64) (s : ℝ), bin h i = BitVec.ofNat 32 n.val ∧ share h i = (s : EReal) := by
  obtain ⟨lo, hlo, hlo2, hlod⟩ := lowest_real hd
  obtain ⟨hi, hhi, hhi2, hhid⟩ := highest_real hd
  have hw : width h = (((hi - lo) / 63 : ℝ) : EReal) := by
    unfold width
    rw [hhi, hlo, ← EReal.coe_sub, real_63, real_div _ (by norm_num)]
  have hpos : 0 < (hi - lo) / 63 := by linarith
  have hq : Ideal.div (h i - lowest h) (width h) = (((d i - lo) / ((hi - lo) / 63) : ℝ) : EReal) := by
    rw [hw, hlo, hd, ← EReal.coe_sub, real_div _ hpos.ne']
  obtain ⟨n, hn⟩ := bin_of_real ((d i - lo) / ((hi - lo) / 63)) (div_nonneg (by linarith [hlod i]) hpos.le)
    (by rw [div_le_iff₀ hpos]; linarith [hhid i])
  refine ⟨n, 1 - (d i - lo - ((bin h i).toInt : ℝ) * ((hi - lo) / 63)) / ((hi - lo) / 63), ?_, ?_⟩
  · rw [bin, hq, hn]
  · unfold share
    rw [hw, hlo, hd, ← EReal.coe_mul, ← EReal.coe_sub, ← EReal.coe_sub, real_div _ hpos.ne', ← EReal.coe_one,
      ← EReal.coe_sub]

end Real

section Bottom

variable {h : Fin 8192 → EReal}

theorem div_bot_top : Ideal.div ⊥ ⊤ = 0 := by
  unfold Ideal.div
  rw [if_neg (by simp), EReal.inv_top, mul_zero]

/-- Differences that are all negative infinity are spread over bins without bounds. -/
theorem lowest_bottom (hd : ∀ i, h i = ⊥) : lowest h = ⊥ := by
  unfold lowest
  simp only [hd, iInf_const]
  exact min_bot_right _

theorem width_bottom (hd : ∀ i, h i = ⊥) : width h = ⊤ := by
  unfold width
  rw [lowest_bottom hd]
  simp only [hd, iSup_const]
  rw [max_bot_right, real_63, Ideal.div_coe (by norm_num), real_two, sub_eq_add_neg, EReal.neg_bot, EReal.coe_add_top,
    EReal.top_mul_coe_of_pos (by norm_num)]

/-- Every row of an all-infinite case gives its whole to one bin. -/
theorem bins_bottom (hd : ∀ i, h i = ⊥) (i : Fin 8192) :
    ∃ n : Fin 64, bin h i = BitVec.ofNat 32 n.val ∧ share h i = ((1 : ℝ) : EReal) := by
  have hq : Ideal.div (h i - lowest h) (width h) = ((0 : ℝ) : EReal) := by
    rw [width_bottom hd, hd, EReal.bot_sub, div_bot_top, EReal.coe_zero]
  obtain ⟨n, hn⟩ := bin_of_real 0 le_rfl (by norm_num)
  refine ⟨n, ?_, ?_⟩
  · rw [bin, hq, hn]
  · unfold share
    rw [width_bottom hd, hd, EReal.bot_sub, EReal.bot_sub, div_bot_top, sub_zero, EReal.coe_one]

/-- The weights of whole rows are positive. -/
theorem weight_pos (n : Fin 8192 → Fin 64) (i : Fin 8192) :
    0 < (∑ a : Fin 64, if a ≤ n i then histReal n (fun _ => 1) a else 0) / 8192 := by
  have ht : ∀ (a : Fin 64) (j : Fin 8192),
      0 ≤ ((if a = n j then (1 : ℝ) else 0) + if a = next (n j) then 1 - 1 else 0) := fun a j => by
    split <;> split <;> norm_num
  have hn : ∀ a, 0 ≤ histReal n (fun _ => 1) a := fun a => Finset.sum_nonneg fun j _ => ht a j
  have hp : 0 < histReal n (fun _ => 1) (n i) :=
    Finset.sum_pos' (fun j _ => ht _ j) ⟨i, Finset.mem_univ _, by rw [if_pos rfl]; split <;> norm_num⟩
  refine div_pos (Finset.sum_pos' (fun a _ => ?_) ⟨n i, Finset.mem_univ _, by rw [if_pos le_rfl]; exact hp⟩) (by norm_num)
  split
  · exact hn a
  · exact le_rfl

end Bottom

/-- A sum of negative infinities. -/
theorem sum_bottom {f : Fin 8192 → EReal} (hf : ∀ i, f i = ⊥) : ∑ i, f i = ⊥ := by
  rw [← Finset.add_sum_erase _ _ (Finset.mem_univ (0 : Fin 8192)), hf, EReal.bot_add]

/-- A sum of infinities. -/
theorem sum_top {f : Fin 8192 → EReal} (hf : ∀ i, f i = ⊤) : ∑ i, f i = ⊤ := by
  rw [← Finset.add_sum_erase _ _ (Finset.mem_univ (0 : Fin 8192)), hf]
  refine EReal.top_add_of_ne_bot (ne_of_gt (lt_of_lt_of_le EReal.bot_lt_zero (Finset.sum_nonneg fun j _ => ?_)))
  rw [hf]; exact le_top

/-- For real samples the kernel's loss is the reference's. -/
theorem loss_eq {X : Fin 8192 → Fin 64 → EReal} {T : Fin 8192 → BitVec 32} {x : Fin 8192 → Fin 64 → ℝ}
    (hx : ∀ i k, X i k = (x i k : EReal)) (H : Fin 64 → EReal) : lossK (hvK X T) = lossR X T H := by
  rw [hv_eq hx]
  obtain ⟨p, hp, ⟨n, hn⟩ | hn⟩ := two_cases (T := T) hx
  · have hd : ∀ i, hvR X T i = ((p i - n i : ℝ) : EReal) := fun i => by
      unfold hvR
      rw [hp, hn, EReal.coe_sub]
    choose b s hb hs using fun i => bins_real hd i
    obtain ⟨w, hw⟩ : ∃ w : Fin 8192 → ℝ, ∀ i, weightR H (hvR X T) i = (w i : EReal) :=
      ⟨_, weight_real hb hs H⟩
    unfold lossK lossR
    simp only [weight_eq hb H, hw, hd, hp, hn, ← EReal.coe_mul]
    rw [real_sum, real_sum, real_sum, real_8192, real_div _ (by norm_num), real_div _ (by norm_num),
      real_div _ (by norm_num), ← EReal.coe_neg, ← EReal.coe_add]
    refine congrArg _ ?_
    simp only [sub_mul, Finset.sum_sub_distrib]
    ring
  · have hd : ∀ i, hvR X T i = ⊥ := fun i => by
      unfold hvR
      rw [hn, EReal.sub_top]
    choose b hb hs using fun i => bins_bottom hd i
    have hw := weight_real hb hs H
    unfold lossK lossR
    have e1 : (∑ i, hvR X T i * weightK (hvR X T) i) = ⊥ := sum_bottom fun i => by
      rw [hd, weight_eq hb H, hw, EReal.bot_mul_coe_of_pos (weight_pos b i)]
    have e2 : (∑ i, negR X T i * weightR H (hvR X T) i) = ⊤ := sum_top fun i => by
      rw [hn, hw, EReal.top_mul_coe_of_pos (weight_pos b i)]
    rw [e1, e2, real_8192, Ideal.div_coe (by norm_num), Ideal.div_coe (by norm_num),
      EReal.bot_mul_coe_of_pos (by norm_num), EReal.top_mul_coe_of_pos (by norm_num), EReal.neg_top, EReal.bot_add]

end Cert.Hist
end
-- ==== Proof.lean ====
/-
The proof of the certificate's claim.

The frames are the runs of the three programs.  The equation puts together four facts: the kernel's
result is `lossK (hvK X T)`, the reference's is `lossR X T H`, the precondition makes `X` real, and for
real `X` the two losses are the same number.
-/
module

public import proofs.«01_k».proof.Defs
public import proofs.«01_k».proof.Proof.FrameC
public import proofs.«01_k».proof.Proof.Pre
public import proofs.«01_k».proof.Proof.KerVal
public import proofs.«01_k».proof.Proof.RefVal
public import proofs.«01_k».proof.Proof.MathLoss

@[expose] public section

noncomputable section

namespace Cert.Proof

open Idealize.ShloMosaic Idealize.SL.Sem

/-- The kernel runs and leaves its arguments and its counters as they were. -/
theorem frame_kernel : Cert.quiescent_Kernel := fun m ρ _ => Cert.Kernel.RunV.frame m ρ

/-- So does its reading over the extended real numbers. -/
theorem frame_ideal : Cert.quiescent_KernelIdeal := fun m ρ _ => Cert.KernelIdeal.RunV.frame m ρ

/-- The reference runs and leaves its arguments as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Line.run (F := Ideal) m ρ)

/-- A result of one entry is known by its entry. -/
theorem one_entry {α : Type} (a b : (⟨2, ![1, 1]⟩ : Shape).Idx → α) (h : a (ix2 0 0) = b (ix2 0 0)) : a = b := by
  funext y
  have e : y = ix2 0 0 := funext fun k => by
    match k with
    | ⟨0, _⟩ => exact Fin.ext (by have : (y 0).val < 1 := (y 0).isLt; show (y 0).val = 0; omega)
    | ⟨1, _⟩ => exact Fin.ext (by have : (y 1).val < 1 := (y 1).isLt; show (y 1).val = 0; omega)
  rw [e, h]

/-- The kernel's result is the reference's. -/
theorem equal : @Cert.algebraic_KernelIdeal_ReferenceIdeal_pre_finite_x Cert.KernelIdeal.Gen.facts Cert.ReferenceIdeal.Gen.facts
    Cert.Pre_finite_x.facts := by
  intro m g m' g' hpre hargs
  letI := Cert.Pre_finite_x.facts
  refine ⟨fun c => Cert.KernelIdeal.RunV.lossBlk m c, Cert.KernelIdeal.RunV.run m g, ?_⟩
  refine (θ_run Cert.ReferenceIdeal.defs _ _).mono (fun r h c => ⟨(h c).1.trans ?_, (h c).2⟩)
    (Cert.ReferenceIdeal.Line.run (F := Ideal) m' g')
  refine one_entry _ _ ?_
  refine (Cert.ReferenceIdeal.Line.lossA_at (StableHlo.launchContents m' c)).trans ?_
  show _ = Cert.KernelIdeal.RunV.lossBlk m c (ix2 0 0)
  rw [Cert.KernelIdeal.RunV.lossBlk_at]
  obtain ⟨x, hx⟩ := Cert.Pre_finite_x.real_samples _ _ _ (hpre c)
  have h0 : Cert.ReferenceIdeal.Line.mat (Cert.ReferenceIdeal.Line.argX (StableHlo.launchContents m' c))
      = Cert.KernelIdeal.RunV.memX m c := funext fun i => funext fun k => congrFun (hargs c).1 (ix2 i k)
  have h1 : Cert.ReferenceIdeal.Line.words (Cert.ReferenceIdeal.Line.argT (StableHlo.launchContents m' c))
      = Cert.KernelIdeal.RunV.memT m c := funext fun i => congrFun (hargs c).2.1 (ix1 i)
  rw [h0, h1]
  exact (Cert.Hist.loss_eq (x := x) hx _).symm

theorem claim : Cert.Claim :=
  ⟨Cert.Kernel.Gen.facts, Cert.KernelIdeal.Gen.facts, Cert.ReferenceIdeal.Gen.facts, Cert.Pre_finite_x.facts,
    frame_kernel, frame_ideal, fun m ρ _ => Cert.KernelIdeal.RunV.frame m ρ, frame_reference,
    fun m ρ _ => frame_reference m ρ trivial, trivial, equal⟩

end Cert.Proof

end
